-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "inv_out" .f32 0x3E124925#32 ((1 / 7 : ℝ) : EReal)
  ∧ IdealRules.named_const.Statement Cert.KernelIdeal.κ "inv_rcols" .f32 0x3CA72F05#32 ((1 / 49 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v242) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x768x32x32 : Shape := ⟨4, ![4, 768, 32, 32]⟩
abbrev S4x32x4 : Shape := ⟨3, ![4, 32, 4]⟩
abbrev S4x768x1024 : Shape := ⟨3, ![4, 768, 1024]⟩
abbrev S4x4x32 : Shape := ⟨3, ![4, 4, 32]⟩
abbrev S128x768x49 : Shape := ⟨3, ![128, 768, 49]⟩
abbrev S1x4x32 : Shape := ⟨3, ![1, 4, 32]⟩
abbrev S1x768x1024 : Shape := ⟨3, ![1, 768, 1024]⟩
abbrev S32x768x49 : Shape := ⟨3, ![32, 768, 49]⟩
abbrev S4x32 : Shape := ⟨2, ![4, 32]⟩
abbrev S1x32 : Shape := ⟨2, ![1, 32]⟩
abbrev S1x1568 : Shape := ⟨2, ![1, 1568]⟩
abbrev S32x1568 : Shape := ⟨2, ![32, 1568]⟩
abbrev S4x1568 : Shape := ⟨2, ![4, 1568]⟩
abbrev S32x1x1568 : Shape := ⟨3, ![32, 1, 1568]⟩
abbrev S1x32x1568 : Shape := ⟨3, ![1, 32, 1568]⟩
abbrev S32x32x1568 : Shape := ⟨3, ![32, 32, 1568]⟩
abbrev S1024x1568 : Shape := ⟨2, ![1024, 1568]⟩
abbrev S768x1024 : Shape := ⟨2, ![768, 1024]⟩
abbrev S768x1568 : Shape := ⟨2, ![768, 1568]⟩
abbrev S768x49 : Shape := ⟨2, ![768, 49]⟩
abbrev S1x768x49 : Shape := ⟨3, ![1, 768, 49]⟩
abbrev S128x768x7x7 : Shape := ⟨4, ![128, 768, 7, 7]⟩

abbrev nBuf : Space → Nat
  | .hbm => 6
  | .vmem => 6
  | .smem => 0
  | _ => 0

abbrev bufTy : (tb : Table) → Fin (tcTables nBuf tb) → BufTy
  | .hbm, ⟨0, _⟩ => ⟨S4x768x32x32, .f32⟩
  | .hbm, ⟨1, _⟩ => ⟨S4x32x4, .f32⟩
  | .hbm, ⟨2, _⟩ => ⟨S4x768x1024, .f32⟩
  | .hbm, ⟨3, _⟩ => ⟨S4x4x32, .f32⟩
  | .hbm, ⟨4, _⟩ => ⟨S128x768x49, .f32⟩
  | .hbm, ⟨5, _⟩ => ⟨S128x768x7x7, .f32⟩
  | .local _ .vmem, ⟨0, _⟩ => ⟨S1x4x32, .f32⟩
  | .local _ .vmem, ⟨1, _⟩ => ⟨S1x4x32, .f32⟩
  | .local _ .vmem, ⟨2, _⟩ => ⟨S1x768x1024, .f32⟩
  | .local _ .vmem, ⟨3, _⟩ => ⟨S1x768x1024, .f32⟩
  | .local _ .vmem, ⟨4, _⟩ => ⟨S32x768x49, .f32⟩
  | .local _ .vmem, ⟨5, _⟩ => ⟨S32x768x49, .f32⟩
  | _, _ => ⟨S4x768x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x768x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x768x49 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== KernelIdeal.lean ====
variable {F : FTy → Type} [FloatOps F] [Named F]
def κ : String → Option EReal := fun
  | "inv_out" => some ((1 / 7 : ℝ) : EReal)
  | "inv_rcols" => some ((1 / 49 : ℝ) : EReal)
  | _ => none
-- ==== ReferenceIdeal.lean ====
abbrev S4x768x32x32 : Shape := ⟨4, ![4, 768, 32, 32]⟩
abbrev S4x32x4 : Shape := ⟨3, ![4, 32, 4]⟩
abbrev S4 : Shape := ⟨1, ![4]⟩
abbrev S4x32 : Shape := ⟨2, ![4, 32]⟩
abbrev S128 : Shape := ⟨1, ![128]⟩
abbrev S128x1 : Shape := ⟨2, ![128, 1]⟩
abbrev S128x4 : Shape := ⟨2, ![128, 4]⟩
abbrev S128x5 : Shape := ⟨2, ![128, 5]⟩
abbrev S_ : Shape := ⟨0, ![]⟩
abbrev S14 : Shape := ⟨1, ![14]⟩
abbrev S1x14 : Shape := ⟨2, ![1, 14]⟩
abbrev S128x14 : Shape := ⟨2, ![128, 14]⟩
abbrev S4x32x32x768 : Shape := ⟨4, ![4, 32, 32, 768]⟩
abbrev S128x1x1 : Shape := ⟨3, ![128, 1, 1]⟩
abbrev S128x14x1 : Shape := ⟨3, ![128, 14, 1]⟩
abbrev S128x1x14 : Shape := ⟨3, ![128, 1, 14]⟩
abbrev S128x14x14 : Shape := ⟨3, ![128, 14, 14]⟩
abbrev S128x14x14x1 : Shape := ⟨4, ![128, 14, 14, 1]⟩
abbrev S128x14x14x3 : Shape := ⟨4, ![128, 14, 14, 3]⟩
abbrev S128x14x14x768 : Shape := ⟨4, ![128, 14, 14, 768]⟩
abbrev S128x7x2x7x2x768 : Shape := ⟨6, ![128, 7, 2, 7, 2, 768]⟩
abbrev S128x7x7x768 : Shape := ⟨4, ![128, 7, 7, 768]⟩
abbrev S128x768x7x7 : Shape := ⟨4, ![128, 768, 7, 7]⟩

abbrev nBuf : Space → Nat
  | .hbm => 307
  | .vmem => 0
  | .smem => 0
  | _ => 0

abbrev hbmTy0_0 (i : Nat) : BufTy := match i % 128 with
  | 0 => ⟨S4x768x32x32, .f32⟩
  | 1 => ⟨S4x32x4, .f32⟩
  | 2 => ⟨S4, .f32⟩
  | 3 => ⟨S4x32, .f32⟩
  | 4 => ⟨S128, .f32⟩
  | 5 => ⟨S128x1, .f32⟩
  | 6 => ⟨S128x4, .f32⟩
  | 7 => ⟨S128x5, .f32⟩
  | 8 => ⟨S128x1, .f32⟩
  | 9 => ⟨S128, .f32⟩
  | 10 => ⟨S128, .i32⟩
  | 11 => ⟨S128x1, .f32⟩
  | 12 => ⟨S128, .f32⟩
  | 13 => ⟨S_, .f32⟩
  | 14 => ⟨S128, .f32⟩
  | 15 => ⟨S128, .f32⟩
  | 16 => ⟨S_, .f32⟩
  | 17 => ⟨S128, .f32⟩
  | 18 => ⟨S128, .f32⟩
  | 19 => ⟨S128x1, .f32⟩
  | 20 => ⟨S128, .f32⟩
  | 21 => ⟨S_, .f32⟩
  | 22 => ⟨S128, .f32⟩
  | 23 => ⟨S128, .f32⟩
  | 24 => ⟨S_, .f32⟩
  | 25 => ⟨S128, .f32⟩
  | 26 => ⟨S128, .f32⟩
  | 27 => ⟨S128x1, .f32⟩
  | 28 => ⟨S128, .f32⟩
  | 29 => ⟨S_, .f32⟩
  | 30 => ⟨S128, .f32⟩
  | 31 => ⟨S128, .f32⟩
  | 32 => ⟨S_, .f32⟩
  | 33 => ⟨S128, .f32⟩
  | 34 => ⟨S128, .f32⟩
  | 35 => ⟨S128x1, .f32⟩
  | 36 => ⟨S128, .f32⟩
  | 37 => ⟨S_, .f32⟩
  | 38 => ⟨S128, .f32⟩
  | 39 => ⟨S128, .f32⟩
  | 40 => ⟨S_, .f32⟩
  | 41 => ⟨S128, .f32⟩
  | 42 => ⟨S128, .f32⟩
  | 43 => ⟨S128, .f32⟩
  | 44 => ⟨S_, .f32⟩
  | 45 => ⟨S128, .f32⟩
  | 46 => ⟨S128, .f32⟩
  | 47 => ⟨S128, .f32⟩
  | 48 => ⟨S_, .f32⟩
  | 49 => ⟨S128, .f32⟩
  | 50 => ⟨S128, .f32⟩
  | 51 => ⟨S14, .f32⟩
  | 52 => ⟨S_, .f32⟩
  | 53 => ⟨S14, .f32⟩
  | 54 => ⟨S14, .f32⟩
  | 55 => ⟨S_, .f32⟩
  | 56 => ⟨S14, .f32⟩
  | 57 => ⟨S14, .f32⟩
  | 58 => ⟨S128x1, .f32⟩
  | 59 => ⟨S1x14, .f32⟩
  | 60 => ⟨S128x1, .f32⟩
  | 61 => ⟨S128x14, .f32⟩
  | 62 => ⟨S128x14, .f32⟩
  | 63 => ⟨S128x14, .f32⟩
  | 64 => ⟨S128x14, .f32⟩
  | 65 => ⟨S128x14, .f32⟩
  | 66 => ⟨S128x1, .f32⟩
  | 67 => ⟨S1x14, .f32⟩
  | 68 => ⟨S128x1, .f32⟩
  | 69 => ⟨S128x14, .f32⟩
  | 70 => ⟨S128x14, .f32⟩
  | 71 => ⟨S128x14, .f32⟩
  | 72 => ⟨S128x14, .f32⟩
  | 73 => ⟨S128x14, .f32⟩
  | 74 => ⟨S_, .f32⟩
  | 75 => ⟨S128x14, .f32⟩
  | 76 => ⟨S128x14, .i1⟩
  | 77 => ⟨S_, .f32⟩
  | 78 => ⟨S128x14, .f32⟩
  | 79 => ⟨S128x14, .i1⟩
  | 80 => ⟨S128x14, .i1⟩
  | 81 => ⟨S_, .f32⟩
  | 82 => ⟨S128x14, .f32⟩
  | 83 => ⟨S128x14, .i1⟩
  | 84 => ⟨S_, .f32⟩
  | 85 => ⟨S128x14, .f32⟩
  | 86 => ⟨S128x14, .i1⟩
  | 87 => ⟨S128x14, .i1⟩
  | 88 => ⟨S_, .f32⟩
  | 89 => ⟨S_, .f32⟩
  | 90 => ⟨S_, .f32⟩
  | 91 => ⟨S128x14, .f32⟩
  | 92 => ⟨S128x14, .f32⟩
  | 93 => ⟨S_, .f32⟩
  | 94 => ⟨S128x14, .f32⟩
  | 95 => ⟨S128x14, .f32⟩
  | 96 => ⟨S_, .f32⟩
  | 97 => ⟨S_, .f32⟩
  | 98 => ⟨S_, .f32⟩
  | 99 => ⟨S128x14, .f32⟩
  | 100 => ⟨S128x14, .f32⟩
  | 101 => ⟨S_, .f32⟩
  | 102 => ⟨S128x14, .f32⟩
  | 103 => ⟨S128x14, .f32⟩
  | 104 => ⟨S128x14, .f32⟩
  | 105 => ⟨S128x14, .i32⟩
  | 106 => ⟨S128x14, .f32⟩
  | 107 => ⟨S128x14, .i32⟩
  | 108 => ⟨S_, .i32⟩
  | 109 => ⟨S128x14, .i32⟩
  | 110 => ⟨S128x14, .i32⟩
  | 111 => ⟨S_, .i32⟩
  | 112 => ⟨S128x14, .i32⟩
  | 113 => ⟨S128x14, .i32⟩
  | 114 => ⟨S_, .i32⟩
  | 115 => ⟨S128x14, .i32⟩
  | 116 => ⟨S128x14, .i32⟩
  | 117 => ⟨S_, .i32⟩
  | 118 => ⟨S128x14, .i32⟩
  | 119 => ⟨S128x14, .i32⟩
  | 120 => ⟨S128x14, .f32⟩
  | 121 => ⟨S128x14, .f32⟩
  | 122 => ⟨S128x14, .f32⟩
  | 123 => ⟨S128x14, .f32⟩
  | 124 => ⟨S_, .f32⟩
  | 125 => ⟨S128x14, .f32⟩
  | 126 => ⟨S128x14, .f32⟩
  | 127 => ⟨S_, .f32⟩
  | _ => ⟨S4x768x32x32, .f32⟩

abbrev hbmTy0_1 (i : Nat) : BufTy := match i % 128 with
  | 0 => ⟨S128x14, .f32⟩
  | 1 => ⟨S128x14, .f32⟩
  | 2 => ⟨S4x32x32x768, .f32⟩
  | 3 => ⟨S128x1x1, .i32⟩
  | 4 => ⟨S128x14x1, .f32⟩
  | 5 => ⟨S128x1x14, .f32⟩
  | 6 => ⟨S128x14x14, .f32⟩
  | 7 => ⟨S128x14x14, .f32⟩
  | 8 => ⟨S128x14x14, .f32⟩
  | 9 => ⟨S128x14x14x1, .f32⟩
  | 10 => ⟨S128x14x1, .f32⟩
  | 11 => ⟨S128x1x14, .f32⟩
  | 12 => ⟨S128x14x14, .f32⟩
  | 13 => ⟨S128x14x14, .f32⟩
  | 14 => ⟨S128x14x14, .f32⟩
  | 15 => ⟨S128x14x14x1, .f32⟩
  | 16 => ⟨S128x14x1, .f32⟩
  | 17 => ⟨S128x1x14, .f32⟩
  | 18 => ⟨S128x14x14, .f32⟩
  | 19 => ⟨S128x14x14, .f32⟩
  | 20 => ⟨S128x14x14, .f32⟩
  | 21 => ⟨S128x14x14x1, .f32⟩
  | 22 => ⟨S128x14x1, .f32⟩
  | 23 => ⟨S128x1x14, .f32⟩
  | 24 => ⟨S128x14x14, .f32⟩
  | 25 => ⟨S128x14x14, .f32⟩
  | 26 => ⟨S128x14x14, .f32⟩
  | 27 => ⟨S128x14x14x1, .f32⟩
  | 28 => ⟨S128x14x1, .i32⟩
  | 29 => ⟨S128x1x14, .i32⟩
  | 30 => ⟨S_, .i32⟩
  | 31 => ⟨S128x1x1, .i32⟩
  | 32 => ⟨S128x1x1, .i1⟩
  | 33 => ⟨S_, .i32⟩
  | 34 => ⟨S128x1x1, .i32⟩
  | 35 => ⟨S128x1x1, .i32⟩
  | 36 => ⟨S128x1x1, .i32⟩
  | 37 => ⟨S_, .i32⟩
  | 38 => ⟨S128x14x1, .i32⟩
  | 39 => ⟨S128x14x1, .i1⟩
  | 40 => ⟨S_, .i32⟩
  | 41 => ⟨S128x14x1, .i32⟩
  | 42 => ⟨S128x14x1, .i32⟩
  | 43 => ⟨S128x14x1, .i32⟩
  | 44 => ⟨S_, .i32⟩
  | 45 => ⟨S128x1x14, .i32⟩
  | 46 => ⟨S128x1x14, .i1⟩
  | 47 => ⟨S_, .i32⟩
  | 48 => ⟨S128x1x14, .i32⟩
  | 49 => ⟨S128x1x14, .i32⟩
  | 50 => ⟨S128x1x14, .i32⟩
  | 51 => ⟨S128x14x14, .i32⟩
  | 52 => ⟨S128x14x14, .i32⟩
  | 53 => ⟨S128x14x14, .i32⟩
  | 54 => ⟨S128x14x14x1, .i32⟩
  | 55 => ⟨S128x14x14x1, .i32⟩
  | 56 => ⟨S128x14x14x1, .i32⟩
  | 57 => ⟨S128x14x14x3, .i32⟩
  | 58 => ⟨S128x14x14x768, .f32⟩
  | 59 => ⟨S128x14x14x768, .f32⟩
  | 60 => ⟨S128x14x14x768, .f32⟩
  | 61 => ⟨S128x14x1, .i32⟩
  | 62 => ⟨S128x1x14, .i32⟩
  | 63 => ⟨S_, .i32⟩
  | 64 => ⟨S128x1x1, .i32⟩
  | 65 => ⟨S128x1x1, .i1⟩
  | 66 => ⟨S_, .i32⟩
  | 67 => ⟨S128x1x1, .i32⟩
  | 68 => ⟨S128x1x1, .i32⟩
  | 69 => ⟨S128x1x1, .i32⟩
  | 70 => ⟨S_, .i32⟩
  | 71 => ⟨S128x14x1, .i32⟩
  | 72 => ⟨S128x14x1, .i1⟩
  | 73 => ⟨S_, .i32⟩
  | 74 => ⟨S128x14x1, .i32⟩
  | 75 => ⟨S128x14x1, .i32⟩
  | 76 => ⟨S128x14x1, .i32⟩
  | 77 => ⟨S_, .i32⟩
  | 78 => ⟨S128x1x14, .i32⟩
  | 79 => ⟨S128x1x14, .i1⟩
  | 80 => ⟨S_, .i32⟩
  | 81 => ⟨S128x1x14, .i32⟩
  | 82 => ⟨S128x1x14, .i32⟩
  | 83 => ⟨S128x1x14, .i32⟩
  | 84 => ⟨S128x14x14, .i32⟩
  | 85 => ⟨S128x14x14, .i32⟩
  | 86 => ⟨S128x14x14, .i32⟩
  | 87 => ⟨S128x14x14x1, .i32⟩
  | 88 => ⟨S128x14x14x1, .i32⟩
  | 89 => ⟨S128x14x14x1, .i32⟩
  | 90 => ⟨S128x14x14x3, .i32⟩
  | 91 => ⟨S128x14x14x768, .f32⟩
  | 92 => ⟨S128x14x14x768, .f32⟩
  | 93 => ⟨S128x14x14x768, .f32⟩
  | 94 => ⟨S128x14x14x768, .f32⟩
  | 95 => ⟨S128x14x1, .i32⟩
  | 96 => ⟨S128x1x14, .i32⟩
  | 97 => ⟨S_, .i32⟩
  | 98 => ⟨S128x1x1, .i32⟩
  | 99 => ⟨S128x1x1, .i1⟩
  | 100 => ⟨S_, .i32⟩
  | 101 => ⟨S128x1x1, .i32⟩
  | 102 => ⟨S128x1x1, .i32⟩
  | 103 => ⟨S128x1x1, .i32⟩
  | 104 => ⟨S_, .i32⟩
  | 105 => ⟨S128x14x1, .i32⟩
  | 106 => ⟨S128x14x1, .i1⟩
  | 107 => ⟨S_, .i32⟩
  | 108 => ⟨S128x14x1, .i32⟩
  | 109 => ⟨S128x14x1, .i32⟩
  | 110 => ⟨S128x14x1, .i32⟩
  | 111 => ⟨S_, .i32⟩
  | 112 => ⟨S128x1x14, .i32⟩
  | 113 => ⟨S128x1x14, .i1⟩
  | 114 => ⟨S_, .i32⟩
  | 115 => ⟨S128x1x14, .i32⟩
  | 116 => ⟨S128x1x14, .i32⟩
  | 117 => ⟨S128x1x14, .i32⟩
  | 118 => ⟨S128x14x14, .i32⟩
  | 119 => ⟨S128x14x14, .i32⟩
  | 120 => ⟨S128x14x14, .i32⟩
  | 121 => ⟨S128x14x14x1, .i32⟩
  | 122 => ⟨S128x14x14x1, .i32⟩
  | 123 => ⟨S128x14x14x1, .i32⟩
  | 124 => ⟨S128x14x14x3, .i32⟩
  | 125 => ⟨S128x14x14x768, .f32⟩
  | 126 => ⟨S128x14x14x768, .f32⟩
  | 127 => ⟨S128x14x14x768, .f32⟩
  | _ => ⟨S4x768x32x32, .f32⟩

abbrev hbmTy0_2 (i : Nat) : BufTy := match i % 128 with
  | 0 => ⟨S128x14x14x768, .f32⟩
  | 1 => ⟨S128x14x1, .i32⟩
  | 2 => ⟨S128x1x14, .i32⟩
  | 3 => ⟨S_, .i32⟩
  | 4 => ⟨S128x1x1, .i32⟩
  | 5 => ⟨S128x1x1, .i1⟩
  | 6 => ⟨S_, .i32⟩
  | 7 => ⟨S128x1x1, .i32⟩
  | 8 => ⟨S128x1x1, .i32⟩
  | 9 => ⟨S128x1x1, .i32⟩
  | 10 => ⟨S_, .i32⟩
  | 11 => ⟨S128x14x1, .i32⟩
  | 12 => ⟨S128x14x1, .i1⟩
  | 13 => ⟨S_, .i32⟩
  | 14 => ⟨S128x14x1, .i32⟩
  | 15 => ⟨S128x14x1, .i32⟩
  | 16 => ⟨S128x14x1, .i32⟩
  | 17 => ⟨S_, .i32⟩
  | 18 => ⟨S128x1x14, .i32⟩
  | 19 => ⟨S128x1x14, .i1⟩
  | 20 => ⟨S_, .i32⟩
  | 21 => ⟨S128x1x14, .i32⟩
  | 22 => ⟨S128x1x14, .i32⟩
  | 23 => ⟨S128x1x14, .i32⟩
  | 24 => ⟨S128x14x14, .i32⟩
  | 25 => ⟨S128x14x14, .i32⟩
  | 26 => ⟨S128x14x14, .i32⟩
  | 27 => ⟨S128x14x14x1, .i32⟩
  | 28 => ⟨S128x14x14x1, .i32⟩
  | 29 => ⟨S128x14x14x1, .i32⟩
  | 30 => ⟨S128x14x14x3, .i32⟩
  | 31 => ⟨S128x14x14x768, .f32⟩
  | 32 => ⟨S128x14x14x768, .f32⟩
  | 33 => ⟨S128x14x14x768, .f32⟩
  | 34 => ⟨S128x14x14x768, .f32⟩
  | 35 => ⟨S128x14x1, .i1⟩
  | 36 => ⟨S128x1x14, .i1⟩
  | 37 => ⟨S128x14x14, .i1⟩
  | 38 => ⟨S128x14x14, .i1⟩
  | 39 => ⟨S128x14x14, .i1⟩
  | 40 => ⟨S128x14x14x1, .i1⟩
  | 41 => ⟨S128x14x14x1, .f32⟩
  | 42 => ⟨S128x14x14x768, .f32⟩
  | 43 => ⟨S128x14x14x768, .f32⟩
  | 44 => ⟨S128x7x2x7x2x768, .f32⟩
  | 45 => ⟨S_, .f32⟩
  | 46 => ⟨S128x7x7x768, .f32⟩
  | 47 => ⟨S_, .f32⟩
  | 48 => ⟨S128x7x7x768, .f32⟩
  | 49 => ⟨S128x7x7x768, .f32⟩
  | 50 => ⟨S128x768x7x7, .f32⟩
  | _ => ⟨S4x768x32x32, .f32⟩

abbrev hbmTy (i : Nat) : BufTy := match i / 128 with
  | 0 => hbmTy0_0 i
  | 1 => hbmTy0_1 i
  | 2 => hbmTy0_2 i
  | _ => ⟨S4x768x32x32, .f32⟩

abbrev bufTy : (tb : Table) → Fin (tcTables nBuf tb) → BufTy
  | .hbm, ⟨i, _⟩ => hbmTy i
  | _, _ => ⟨S4x768x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_cst_0 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst_1 : Ref sig .tc := ⟨.hbm, 21, rfl⟩
abbrev main_v17 : Ref sig .tc := ⟨.hbm, 22, rfl⟩
abbrev main_v18 : Ref sig .tc := ⟨.hbm, 23, rfl⟩
abbrev main_cst_2 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_3 : Ref sig .tc := ⟨.hbm, 29, rfl⟩
abbrev main_v23 : Ref sig .tc := ⟨.hbm, 30, rfl⟩
abbrev main_v24 : Ref sig .tc := ⟨.hbm, 31, rfl⟩
abbrev main_cst_4 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_5 : Ref sig .tc := ⟨.hbm, 37, rfl⟩
abbrev main_v29 : Ref sig .tc := ⟨.hbm, 38, rfl⟩
abbrev main_v30 : Ref sig .tc := ⟨.hbm, 39, rfl⟩
abbrev main_cst_6 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_7 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_8 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_9 : Ref sig .tc := ⟨.hbm, 52, rfl⟩
abbrev main_v40 : Ref sig .tc := ⟨.hbm, 53, rfl⟩
abbrev main_v41 : Ref sig .tc := ⟨.hbm, 54, rfl⟩
abbrev main_cst_10 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_cst_11 : Ref sig .tc := ⟨.hbm, 74, rfl⟩
abbrev main_v60 : Ref sig .tc := ⟨.hbm, 75, rfl⟩
abbrev main_v61 : Ref sig .tc := ⟨.hbm, 76, rfl⟩
abbrev main_cst_12 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_cst_13 : Ref sig .tc := ⟨.hbm, 81, rfl⟩
abbrev main_v65 : Ref sig .tc := ⟨.hbm, 82, rfl⟩
abbrev main_v66 : Ref sig .tc := ⟨.hbm, 83, rfl⟩
abbrev main_cst_14 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_cst_15 : Ref sig .tc := ⟨.hbm, 88, rfl⟩
abbrev main_cst_16 : Ref sig .tc := ⟨.hbm, 89, rfl⟩
abbrev main_call0_v0 : Ref sig .tc := ⟨.hbm, 90, rfl⟩
abbrev main_call0_v1 : Ref sig .tc := ⟨.hbm, 91, rfl⟩
abbrev main_call0_v2 : Ref sig .tc := ⟨.hbm, 92, rfl⟩
abbrev main_call0_v3 : Ref sig .tc := ⟨.hbm, 93, rfl⟩
abbrev main_call0_v4 : Ref sig .tc := ⟨.hbm, 94, rfl⟩
abbrev main_v70 : Ref sig .tc := ⟨.hbm, 95, rfl⟩
abbrev main_cst_17 : Ref sig .tc := ⟨.hbm, 96, rfl⟩
abbrev main_cst_18 : Ref sig .tc := ⟨.hbm, 97, rfl⟩
abbrev main_call1_v0 : Ref sig .tc := ⟨.hbm, 98, rfl⟩
abbrev main_call1_v1 : Ref sig .tc := ⟨.hbm, 99, rfl⟩
abbrev main_call1_v2 : Ref sig .tc := ⟨.hbm, 100, rfl⟩
abbrev main_call1_v3 : Ref sig .tc := ⟨.hbm, 101, rfl⟩
abbrev main_call1_v4 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_c : Ref sig .tc := ⟨.hbm, 108, rfl⟩
abbrev main_v76 : Ref sig .tc := ⟨.hbm, 109, rfl⟩
abbrev main_v77 : Ref sig .tc := ⟨.hbm, 110, rfl⟩
abbrev main_c_19 : Ref sig .tc := ⟨.hbm, 111, rfl⟩
abbrev main_v78 : Ref sig .tc := ⟨.hbm, 112, rfl⟩
abbrev main_v79 : Ref sig .tc := ⟨.hbm, 113, rfl⟩
abbrev main_c_20 : Ref sig .tc := ⟨.hbm, 114, rfl⟩
abbrev main_v80 : Ref sig .tc := ⟨.hbm, 115, rfl⟩
abbrev main_v81 : Ref sig .tc := ⟨.hbm, 116, rfl⟩
abbrev main_c_21 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_cst_22 : Ref sig .tc := ⟨.hbm, 124, rfl⟩
abbrev main_v88 : Ref sig .tc := ⟨.hbm, 125, rfl⟩
abbrev main_v89 : Ref sig .tc := ⟨.hbm, 126, rfl⟩
abbrev main_cst_23 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_c_24 : Ref sig .tc := ⟨.hbm, 158, rfl⟩
abbrev main_v120 : Ref sig .tc := ⟨.hbm, 159, rfl⟩
abbrev main_v121 : Ref sig .tc := ⟨.hbm, 160, rfl⟩
abbrev main_c_25 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_c_26 : Ref sig .tc := ⟨.hbm, 165, rfl⟩
abbrev main_v125 : Ref sig .tc := ⟨.hbm, 166, rfl⟩
abbrev main_v126 : Ref sig .tc := ⟨.hbm, 167, rfl⟩
abbrev main_c_27 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_c_28 : Ref sig .tc := ⟨.hbm, 172, rfl⟩
abbrev main_v130 : Ref sig .tc := ⟨.hbm, 173, rfl⟩
abbrev main_v131 : Ref sig .tc := ⟨.hbm, 174, rfl⟩
abbrev main_c_29 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_v144 : Ref sig .tc := ⟨.hbm, 188, rfl⟩
abbrev main_v145 : Ref sig .tc := ⟨.hbm, 189, rfl⟩
abbrev main_v146 : Ref sig .tc := ⟨.hbm, 190, rfl⟩
abbrev main_c_30 : Ref sig .tc := ⟨.hbm, 191, rfl⟩
abbrev main_v147 : Ref sig .tc := ⟨.hbm, 192, rfl⟩
abbrev main_v148 : Ref sig .tc := ⟨.hbm, 193, rfl⟩
abbrev main_c_31 : Ref sig .tc := ⟨.hbm, 194, rfl⟩
abbrev main_v149 : Ref sig .tc := ⟨.hbm, 195, rfl⟩
abbrev main_v150 : Ref sig .tc := ⟨.hbm, 196, rfl⟩
abbrev main_v151 : Ref sig .tc := ⟨.hbm, 197, rfl⟩
abbrev main_c_32 : Ref sig .tc := ⟨.hbm, 198, rfl⟩
abbrev main_v152 : Ref sig .tc := ⟨.hbm, 199, rfl⟩
abbrev main_v153 : Ref sig .tc := ⟨.hbm, 200, rfl⟩
abbrev main_c_33 : Ref sig .tc := ⟨.hbm, 201, rfl⟩
abbrev main_v154 : Ref sig .tc := ⟨.hbm, 202, rfl⟩
abbrev main_v155 : Ref sig .tc := ⟨.hbm, 203, rfl⟩
abbrev main_v156 : Ref sig .tc := ⟨.hbm, 204, rfl⟩
abbrev main_c_34 : Ref sig .tc := ⟨.hbm, 205, rfl⟩
abbrev main_v157 : Ref sig .tc := ⟨.hbm, 206, rfl⟩
abbrev main_v158 : Ref sig .tc := ⟨.hbm, 207, rfl⟩
abbrev main_c_35 : Ref sig .tc := ⟨.hbm, 208, rfl⟩
abbrev main_v159 : Ref sig .tc := ⟨.hbm, 209, rfl⟩
abbrev main_v160 : Ref sig .tc := ⟨.hbm, 210, rfl⟩
abbrev main_v161 : Ref sig .tc := ⟨.hbm, 211, rfl⟩
abbrev main_v162 : Ref sig .tc := ⟨.hbm, 212, rfl⟩
abbrev main_v163 : Ref sig .tc := ⟨.hbm, 213, rfl⟩
abbrev main_v164 : Ref sig .tc := ⟨.hbm, 214, rfl⟩
abbrev main_v165 : Ref sig .tc := ⟨.hbm, 215, rfl⟩
abbrev main_v166 : Ref sig .tc := ⟨.hbm, 216, rfl⟩
abbrev main_v167 : Ref sig .tc := ⟨.hbm, 217, rfl⟩
abbrev main_v168 : Ref sig .tc := ⟨.hbm, 218, rfl⟩
abbrev main_v169 : Ref sig .tc := ⟨.hbm, 219, rfl⟩
abbrev main_v170 : Ref sig .tc := ⟨.hbm, 220, rfl⟩
abbrev main_v171 : Ref sig .tc := ⟨.hbm, 221, rfl⟩
abbrev main_v172 : Ref sig .tc := ⟨.hbm, 222, rfl⟩
abbrev main_v173 : Ref sig .tc := ⟨.hbm, 223, rfl⟩
abbrev main_v174 : Ref sig .tc := ⟨.hbm, 224, rfl⟩
abbrev main_c_36 : Ref sig .tc := ⟨.hbm, 225, rfl⟩
abbrev main_v175 : Ref sig .tc := ⟨.hbm, 226, rfl⟩
abbrev main_v176 : Ref sig .tc := ⟨.hbm, 227, rfl⟩
abbrev main_c_37 : Ref sig .tc := ⟨.hbm, 228, rfl⟩
abbrev main_v177 : Ref sig .tc := ⟨.hbm, 229, rfl⟩
abbrev main_v178 : Ref sig .tc := ⟨.hbm, 230, rfl⟩
abbrev main_v179 : Ref sig .tc := ⟨.hbm, 231, rfl⟩
abbrev main_c_38 : Ref sig .tc := ⟨.hbm, 232, rfl⟩
abbrev main_v180 : Ref sig .tc := ⟨.hbm, 233, rfl⟩
abbrev main_v181 : Ref sig .tc := ⟨.hbm, 234, rfl⟩
abbrev main_c_39 : Ref sig .tc := ⟨.hbm, 235, rfl⟩
abbrev main_v182 : Ref sig .tc := ⟨.hbm, 236, rfl⟩
abbrev main_v183 : Ref sig .tc := ⟨.hbm, 237, rfl⟩
abbrev main_v184 : Ref sig .tc := ⟨.hbm, 238, rfl⟩
abbrev main_c_40 : Ref sig .tc := ⟨.hbm, 239, rfl⟩
abbrev main_v185 : Ref sig .tc := ⟨.hbm, 240, rfl⟩
abbrev main_v186 : Ref sig .tc := ⟨.hbm, 241, rfl⟩
abbrev main_c_41 : Ref sig .tc := ⟨.hbm, 242, rfl⟩
abbrev main_v187 : Ref sig .tc := ⟨.hbm, 243, rfl⟩
abbrev main_v188 : Ref sig .tc := ⟨.hbm, 244, rfl⟩
abbrev main_v189 : Ref sig .tc := ⟨.hbm, 245, rfl⟩
abbrev main_v190 : Ref sig .tc := ⟨.hbm, 246, rfl⟩
abbrev main_v191 : Ref sig .tc := ⟨.hbm, 247, rfl⟩
abbrev main_v192 : Ref sig .tc := ⟨.hbm, 248, rfl⟩
abbrev main_v193 : Ref sig .tc := ⟨.hbm, 249, rfl⟩
abbrev main_v194 : Ref sig .tc := ⟨.hbm, 250, rfl⟩
abbrev main_v195 : Ref sig .tc := ⟨.hbm, 251, rfl⟩
abbrev main_v196 : Ref sig .tc := ⟨.hbm, 252, rfl⟩
abbrev main_v197 : Ref sig .tc := ⟨.hbm, 253, rfl⟩
abbrev main_v198 : Ref sig .tc := ⟨.hbm, 254, rfl⟩
abbrev main_v199 : Ref sig .tc := ⟨.hbm, 255, rfl⟩
abbrev main_v200 : Ref sig .tc := ⟨.hbm, 256, rfl⟩
abbrev main_v201 : Ref sig .tc := ⟨.hbm, 257, rfl⟩
abbrev main_v202 : Ref sig .tc := ⟨.hbm, 258, rfl⟩
abbrev main_c_42 : Ref sig .tc := ⟨.hbm, 259, rfl⟩
abbrev main_v203 : Ref sig .tc := ⟨.hbm, 260, rfl⟩
abbrev main_v204 : Ref sig .tc := ⟨.hbm, 261, rfl⟩
abbrev main_c_43 : Ref sig .tc := ⟨.hbm, 262, rfl⟩
abbrev main_v205 : Ref sig .tc := ⟨.hbm, 263, rfl⟩
abbrev main_v206 : Ref sig .tc := ⟨.hbm, 264, rfl⟩
abbrev main_v207 : Ref sig .tc := ⟨.hbm, 265, rfl⟩
abbrev main_c_44 : Ref sig .tc := ⟨.hbm, 266, rfl⟩
abbrev main_v208 : Ref sig .tc := ⟨.hbm, 267, rfl⟩
abbrev main_v209 : Ref sig .tc := ⟨.hbm, 268, rfl⟩
abbrev main_c_45 : Ref sig .tc := ⟨.hbm, 269, rfl⟩
abbrev main_v210 : Ref sig .tc := ⟨.hbm, 270, rfl⟩
abbrev main_v211 : Ref sig .tc := ⟨.hbm, 271, rfl⟩
abbrev main_v212 : Ref sig .tc := ⟨.hbm, 272, rfl⟩
abbrev main_c_46 : Ref sig .tc := ⟨.hbm, 273, rfl⟩
abbrev main_v213 : Ref sig .tc := ⟨.hbm, 274, rfl⟩
abbrev main_v214 : Ref sig .tc := ⟨.hbm, 275, rfl⟩
abbrev main_c_47 : Ref sig .tc := ⟨.hbm, 276, rfl⟩
abbrev main_v215 : Ref sig .tc := ⟨.hbm, 277, rfl⟩
abbrev main_v216 : Ref sig .tc := ⟨.hbm, 278, rfl⟩
abbrev main_v217 : Ref sig .tc := ⟨.hbm, 279, rfl⟩
abbrev main_v218 : Ref sig .tc := ⟨.hbm, 280, rfl⟩
abbrev main_v219 : Ref sig .tc := ⟨.hbm, 281, rfl⟩
abbrev main_v220 : Ref sig .tc := ⟨.hbm, 282, rfl⟩
abbrev main_v221 : Ref sig .tc := ⟨.hbm, 283, rfl⟩
abbrev main_v222 : Ref sig .tc := ⟨.hbm, 284, rfl⟩
abbrev main_v223 : Ref sig .tc := ⟨.hbm, 285, rfl⟩
abbrev main_v224 : Ref sig .tc := ⟨.hbm, 286, rfl⟩
abbrev main_v225 : Ref sig .tc := ⟨.hbm, 287, rfl⟩
abbrev main_v226 : Ref sig .tc := ⟨.hbm, 288, rfl⟩
abbrev main_v227 : Ref sig .tc := ⟨.hbm, 289, rfl⟩
abbrev main_v228 : Ref sig .tc := ⟨.hbm, 290, rfl⟩
abbrev main_v229 : Ref sig .tc := ⟨.hbm, 291, rfl⟩
abbrev main_v230 : Ref sig .tc := ⟨.hbm, 292, rfl⟩
abbrev main_v231 : Ref sig .tc := ⟨.hbm, 293, rfl⟩
abbrev main_v232 : Ref sig .tc := ⟨.hbm, 294, rfl⟩
abbrev main_v233 : Ref sig .tc := ⟨.hbm, 295, rfl⟩
abbrev main_v234 : Ref sig .tc := ⟨.hbm, 296, rfl⟩
abbrev main_v235 : Ref sig .tc := ⟨.hbm, 297, rfl⟩
abbrev main_v236 : Ref sig .tc := ⟨.hbm, 298, rfl⟩
abbrev main_v237 : Ref sig .tc := ⟨.hbm, 299, rfl⟩
abbrev main_v238 : Ref sig .tc := ⟨.hbm, 300, rfl⟩
abbrev main_cst_48 : Ref sig .tc := ⟨.hbm, 301, rfl⟩
abbrev main_v239 : Ref sig .tc := ⟨.hbm, 302, rfl⟩
abbrev main_cst_49 : Ref sig .tc := ⟨.hbm, 303, rfl⟩
abbrev main_v240 : Ref sig .tc := ⟨.hbm, 304, rfl⟩
abbrev main_v241 : Ref sig .tc := ⟨.hbm, 305, rfl⟩
abbrev main_v242 : Ref sig .tc := ⟨.hbm, 306, rfl⟩

abbrev nD : Nat := 1
abbrev τ : Topo := Topo.v7x

variable {F : FTy → Type} [FloatOps F]
-- ==== Proof.Sample.lean ====
/-
One coordinate of one bilinear sample, over the extended reals.

A sample position is any extended real `s`. Both programs clip it into `[0, 31]`, take the row (or column) below it
and the next one, and weigh the two by the fraction; a position outside `[-1, 32]` counts for nothing. After the
clip everything is a real number, so what either program computes from `s` is the coercion of a real weight, and the
two indices are numbers below 32.
-/
module

public import Idealize.ShloMosaic.Lib.Pointwise

@[expose] public section

set_option maxRecDepth 16384

noncomputable section

namespace Cert.RoiAlign

open Idealize.ShloMosaic
open scoped BigOperators

/-! ## The constants the programs print -/

/-- The printed word of one half. -/
theorem f32_half : Ideal.ofBits .f32 0x3F000000#32 = ((1 / 2 : ℝ) : EReal) := by
  simp [Ideal.ofBits, Ideal.ieee, -EReal.coe_mul]; norm_num
/-- The printed word of two. -/
theorem f32_two : Ideal.ofBits .f32 0x40000000#32 = ((2 : ℝ) : EReal) := by
  simp [Ideal.ofBits, Ideal.ieee, -EReal.coe_mul]; norm_num
/-- The printed word of four. -/
theorem f32_four : Ideal.ofBits .f32 0x40800000#32 = ((4 : ℝ) : EReal) := by
  simp [Ideal.ofBits, Ideal.ieee, -EReal.coe_mul]; norm_num
/-- The printed word of seven. -/
theorem f32_seven : Ideal.ofBits .f32 0x40E00000#32 = ((7 : ℝ) : EReal) := by
  simp [Ideal.ofBits, Ideal.ieee, -EReal.coe_mul]; norm_num
/-- The printed word of 31, the last row and the last column. -/
theorem f32_last : Ideal.ofBits .f32 0x41F80000#32 = ((31 : ℝ) : EReal) := by
  simp [Ideal.ofBits, Ideal.ieee, -EReal.coe_mul]; norm_num
/-- The printed word of 32, the number of rows and of columns. -/
theorem f32_extent : Ideal.ofBits .f32 0x42000000#32 = ((32 : ℝ) : EReal) := by
  simp [Ideal.ofBits, Ideal.ieee, -EReal.coe_mul]; norm_num
/-- The printed word of 49, the bins of one region. -/
theorem f32_bins : Ideal.ofBits .f32 0x42440000#32 = ((49 : ℝ) : EReal) := by
  simp [Ideal.ofBits, Ideal.ieee, -EReal.coe_mul]; norm_num
/-- The printed word of minus one. -/
theorem f32_neg_one : Ideal.ofBits .f32 0xBF800000#32 = ((-1 : ℝ) : EReal) := by
  simp [Ideal.ofBits, Ideal.ieee, -EReal.coe_mul, -EReal.coe_neg]; norm_num

/-- A small natural number's word, read as a signed integer. -/
theorem toInt_ofNat {n : ℕ} (h : n < 2147483648) : (BitVec.ofNat 32 n).toInt = (n : ℤ) := by
  rw [BitVec.toInt_eq_toNat_cond, BitVec.toNat_ofNat, Nat.mod_eq_of_lt (by omega)]
  rw [if_pos (by omega)]
/-- A small natural number's word converts to that number. -/
theorem sitofp_ofNat {n : ℕ} (h : n < 2147483648) :
    (FloatOps.sitofp (F := Ideal) .f32 (BitVec.ofNat 32 n) : EReal) = ((n : ℝ) : EReal) := by
  show (((BitVec.ofNat 32 n).toInt : ℝ) : EReal) = _
  rw [toInt_ofNat h]; norm_cast

/-- The floor of a real number between `n` and `n + 1`. -/
theorem liftRound_nat (n : ℕ) (t : ℝ) (h0 : (n : ℝ) ≤ t) (h1 : t < n + 1) :
    Ideal.liftRound Int.floor ((t : ℝ) : EReal) = ((n : ℝ) : EReal) := by
  rw [Ideal.liftRound_coe]
  have : ⌊t⌋ = (n : ℤ) := by
    rw [Int.floor_eq_iff]; exact ⟨by exact_mod_cast h0, by exact_mod_cast h1⟩
  rw [this]; norm_cast

/-! ## The clipped position, its two neighbours and their weights -/

/-- The position clipped into `[0, 31]`, as both programs write it. -/
def clip (s : EReal) : EReal := min ((31 : ℝ) : EReal) (max 0 s)

/-- The clipped position as a real number. -/
def pos (s : EReal) : ℝ := (clip s).toReal

theorem clip_nonneg (s : EReal) : 0 ≤ clip s :=
  le_min (by exact_mod_cast (by norm_num : (0 : ℝ) ≤ 31)) (le_max_left _ _)

theorem clip_le (s : EReal) : clip s ≤ ((31 : ℝ) : EReal) := min_le_left _ _

/-- The clipped position is a real number. -/
theorem clip_eq (s : EReal) : clip s = ((pos s : ℝ) : EReal) := by
  refine (EReal.coe_toReal ?_ ?_).symm
  · exact ne_top_of_le_ne_top (EReal.coe_ne_top _) (clip_le s)
  · intro h; have := clip_nonneg s; rw [h] at this; simp at this

theorem pos_nonneg (s : EReal) : 0 ≤ pos s := by
  have := clip_nonneg s; rw [clip_eq] at this; exact_mod_cast this

theorem pos_le (s : EReal) : pos s ≤ 31 := by
  have := clip_le s; rw [clip_eq] at this; exact_mod_cast this

/-- The row (or column) at or below the position. -/
def lo (s : EReal) : Fin 32 :=
  ⟨⌊pos s⌋₊, by
    have h := (Nat.floor_le (pos_nonneg s)).trans (pos_le s)
    have : ⌊pos s⌋₊ ≤ 31 := by exact_mod_cast h
    omega⟩

/-- The next row (or column), held at the last one. -/
def hi (s : EReal) : Fin 32 := ⟨min ((lo s : ℕ) + 1) 31, by omega⟩

/-- How far past the lower row the position lies. -/
def frac (s : EReal) : ℝ := pos s - ((lo s : ℕ) : ℝ)

theorem lo_le (s : EReal) : ((lo s : ℕ) : ℝ) ≤ pos s := Nat.floor_le (pos_nonneg s)

theorem lt_lo (s : EReal) : pos s < ((lo s : ℕ) : ℝ) + 1 := Nat.lt_floor_add_one (pos s)

theorem frac_nonneg (s : EReal) : 0 ≤ frac s := sub_nonneg.2 (lo_le s)

theorem frac_le (s : EReal) : frac s ≤ 1 := by have := lt_lo s; unfold frac; linarith

/-- The two neighbours: number 0 the lower, number 1 the next. -/
def nbr (s : EReal) (e : Fin 2) : Fin 32 := if e = 0 then lo s else hi s

/-- The two neighbours' bilinear weights. -/
def wt (s : EReal) (e : Fin 2) : ℝ := if e = 0 then 1 - frac s else frac s

open Classical in
/-- Whether the position counts: one inside `[-1, 32]`, zero outside. -/
def ok (s : EReal) : ℝ := if ((-1 : ℝ) : EReal) ≤ s ∧ s ≤ ((32 : ℝ) : EReal) then 1 else 0

theorem wt_nonneg (s : EReal) (e : Fin 2) : 0 ≤ wt s e := by
  unfold wt; split_ifs
  · have := frac_le s; linarith
  · exact frac_nonneg s

theorem ok_nonneg (s : EReal) : 0 ≤ ok s := by unfold ok; split_ifs <;> norm_num

/-- The floor of the clipped position. -/
theorem floor_clip (s : EReal) : Ideal.liftRound Int.floor (clip s) = (((lo s : ℕ) : ℝ) : EReal) := by
  rw [clip_eq]; exact liftRound_nat _ _ (lo_le s) (lt_lo s)

/-- The row after the floor, held at 31. -/
theorem next_clip (s : EReal) :
    min ((((lo s : ℕ) : ℝ) : EReal) + 1) ((31 : ℝ) : EReal) = (((hi s : ℕ) : ℝ) : EReal) := by
  rw [show ((((lo s : ℕ) : ℝ) : EReal) + 1) = ((((lo s : ℕ) : ℝ) + 1 : ℝ) : EReal) by push_cast; rfl]
  rw [← EReal.coe_strictMono.monotone.map_min]
  congr 1
  show min (((lo s : ℕ) : ℝ) + 1) 31 = ((min ((lo s : ℕ) + 1) 31 : ℕ) : ℝ)
  push_cast; rfl

/-- The fraction, as the programs subtract it. -/
theorem clip_sub (s : EReal) : clip s - (((lo s : ℕ) : ℝ) : EReal) = ((frac s : ℝ) : EReal) := by
  rw [clip_eq, ← EReal.coe_sub]; rfl

theorem one_sub_frac (s : EReal) : 1 - ((frac s : ℝ) : EReal) = ((1 - frac s : ℝ) : EReal) := by
  rw [EReal.coe_sub]; rfl

/-- The kernel's validity factor is half of `ok`. -/
theorem select_valid (s : EReal) :
    Scalar.select (IntOp.andi (BitVec.ofBool (decide (((-1 : ℝ) : EReal) ≤ s)))
      (BitVec.ofBool (decide (s ≤ ((32 : ℝ) : EReal))))) ((1 / 2 : ℝ) : EReal) 0 = ((ok s / 2 : ℝ) : EReal) := by
  unfold ok
  by_cases h1 : ((-1 : ℝ) : EReal) ≤ s <;> by_cases h2 : s ≤ ((32 : ℝ) : EReal)
  · rw [if_pos ⟨h1, h2⟩, decide_eq_true h1, decide_eq_true h2]; rfl
  · rw [if_neg (fun h => h2 h.2), decide_eq_true h1, decide_eq_false h2]
    show (0 : EReal) = _
    norm_num
  · rw [if_neg (fun h => h1 h.1), decide_eq_false h1, decide_eq_true h2]
    show (0 : EReal) = _
    norm_num
  · rw [if_neg (fun h => h2 h.2), decide_eq_false h1, decide_eq_false h2]
    show (0 : EReal) = _
    norm_num

/-- The reference's validity factor of a pair of positions is the product of the two. -/
theorem both_valid (s t : EReal) :
    FloatOps.uitofp (F := Ideal) .f32 (IntOp.andi
      (IntOp.andi (BitVec.ofBool (decide (((-1 : ℝ) : EReal) ≤ s))) (BitVec.ofBool (decide (s ≤ ((32 : ℝ) : EReal)))))
      (IntOp.andi (BitVec.ofBool (decide (((-1 : ℝ) : EReal) ≤ t))) (BitVec.ofBool (decide (t ≤ ((32 : ℝ) : EReal))))))
      = ((ok s * ok t : ℝ) : EReal) := by
  have one : ∀ s : EReal, IntOp.andi (BitVec.ofBool (decide (((-1 : ℝ) : EReal) ≤ s)))
      (BitVec.ofBool (decide (s ≤ ((32 : ℝ) : EReal)))) = if ((-1 : ℝ) : EReal) ≤ s ∧ s ≤ ((32 : ℝ) : EReal) then 1#1 else 0#1 := by
    intro s
    by_cases h1 : ((-1 : ℝ) : EReal) ≤ s <;> by_cases h2 : s ≤ ((32 : ℝ) : EReal) <;>
      simp only [h1, h2, decide_true, decide_false, and_true, and_false, if_true, if_false] <;> rfl
  rw [one, one]
  unfold ok
  split_ifs <;> · show (((_ : ℕ) : ℝ) : EReal) = _; norm_num [IntOp.andi]

/-- What one sample position adds to row `h` of the kernel's weight column: the lower neighbour's share. -/
def tap (s : EReal) (e : Fin 2) (h : Fin 32) : ℝ := if h = nbr s e then wt s e * (ok s / 2) else 0

theorem tap_nonneg (s : EReal) (e : Fin 2) (h : Fin 32) : 0 ≤ tap s e h := by
  unfold tap; split_ifs
  · exact mul_nonneg (wt_nonneg s e) (by have := ok_nonneg s; linarith)
  · exact le_rfl

theorem coe_eq_iff (h k : Fin 32) : ((((h : ℕ) : ℝ) : EReal) = (((k : ℕ) : ℝ) : EReal)) ↔ h = k := by
  rw [EReal.coe_eq_coe_iff, Nat.cast_inj, Fin.val_inj]

theorem tap_lo (s : EReal) (h : Fin 32) :
    (if (((h : ℕ) : ℝ) : EReal) = (((lo s : ℕ) : ℝ) : EReal)
      then (1 - ((frac s : ℝ) : EReal)) * ((ok s / 2 : ℝ) : EReal) else 0) = ((tap s 0 h : ℝ) : EReal) := by
  rw [one_sub_frac, ← EReal.coe_mul]
  simp only [coe_eq_iff]
  unfold tap nbr wt
  by_cases hh : h = lo s
  · rw [if_pos hh, if_pos (by simp [hh])]; simp
  · rw [if_neg hh, if_neg (by simpa using hh)]; simp

theorem tap_hi (s : EReal) (h : Fin 32) :
    (if (((h : ℕ) : ℝ) : EReal) = (((hi s : ℕ) : ℝ) : EReal)
      then ((frac s : ℝ) : EReal) * ((ok s / 2 : ℝ) : EReal) else 0) = ((tap s 1 h : ℝ) : EReal) := by
  rw [← EReal.coe_mul]
  simp only [coe_eq_iff]
  unfold tap nbr wt
  by_cases hh : h = hi s
  · rw [if_pos hh, if_pos (by simp [hh])]; simp
  · rw [if_neg hh, if_neg (by simpa using hh)]; simp

/-! ## A box's edges and its sample positions -/

/-- A box coordinate in feature units, half a step back. -/
def edge (b : EReal) : EReal := b * Ideal.ofBits .f32 0x3D800000#32 - Ideal.ofBits .f32 0x3F000000#32

/-- The size of a bin: a seventh of the box, from its two coordinates. -/
def extent (a b : EReal) : EReal := (edge b - edge a) * ((1 / 7 : ℝ) : EReal)

/-- Sample `k` of bin `o` of the box from `a` to `b`. -/
def spot (a b : EReal) (o : ℕ) (k : Fin 2) : EReal :=
  edge a + (((2 * (o : ℝ) + ((k : ℕ) : ℝ) + 1 / 2) * (1 / 2) : ℝ) : EReal) * extent a b

/-! ## The reference's indices -/

/-- A natural number converts to its word. -/
theorem fptosi_ofNat {n : ℕ} (h : n < 2147483648) : Ideal.fptosi 32 (((n : ℕ) : ℝ) : EReal) = BitVec.ofNat 32 n := by
  unfold Ideal.fptosi
  rw [Ideal.toIntClamped_coe, if_pos (Nat.cast_nonneg _), Int.floor_natCast]
  rw [min_eq_right (by norm_num; omega), max_eq_right (by norm_num)]
  rfl

/-- The clipped position's floor converts to the lower row's word. -/
theorem fptosi_lo (s : EReal) : Ideal.fptosi 32 (((lo s : ℕ) : ℝ) : EReal) = BitVec.ofNat 32 (lo s : ℕ) :=
  fptosi_ofNat (by omega)

/-- The next row's word. -/
theorem minsi_hi (s : EReal) :
    IntOp.minsi (IntOp.addi (BitVec.ofNat 32 (lo s : ℕ)) 1#32) 31#32 = BitVec.ofNat 32 (hi s : ℕ) := by
  show _ = BitVec.ofNat 32 (min ((lo s : ℕ) + 1) 31)
  have hl := (lo s).isLt
  generalize (lo s : ℕ) = n at hl ⊢
  interval_cases n <;> rfl

/-- An index that is not negative is left as it is. -/
theorem wrap_eq {n : ℕ} (k : BitVec 32) (h : n < 2147483648) :
    Scalar.select (IntOp.cmpi .slt (BitVec.ofNat 32 n) 0#32) (IntOp.addi (BitVec.ofNat 32 n) k) (BitVec.ofNat 32 n)
      = BitVec.ofNat 32 n := by
  have : IntOp.cmpi .slt (BitVec.ofNat 32 n) 0#32 = 0#1 := by
    show BitVec.ofBool ((BitVec.ofNat 32 n).slt 0#32) = 0#1
    rw [BitVec.slt, toInt_ofNat h, decide_eq_false (by simp)]
    rfl
  rw [this]; rfl

/-! ## Sums against real weights -/

/-- A factor goes into a sum of nonnegative real weights. -/
theorem mul_coe_sum {ι : Type} (S : Finset ι) (x : EReal) (r : ι → ℝ) (hr : ∀ i, 0 ≤ r i) :
    x * ((∑ i ∈ S, r i : ℝ) : EReal) = ∑ i ∈ S, x * ((r i : ℝ) : EReal) := by
  classical
  induction S using Finset.induction_on with
  | empty => simp
  | insert a S ha ih =>
    rw [Finset.sum_insert ha, Finset.sum_insert ha, EReal.coe_add, EReal.left_distrib_of_nonneg, ih]
    · exact_mod_cast hr a
    · exact_mod_cast Finset.sum_nonneg fun i _ => hr i

/-- A nonnegative real factor goes into any finite sum of extended reals. -/
theorem coe_mul_sum {ι : Type} (S : Finset ι) (c : ℝ) (hc : 0 ≤ c) (f : ι → EReal) :
    ((c : ℝ) : EReal) * ∑ i ∈ S, f i = ∑ i ∈ S, ((c : ℝ) : EReal) * f i := by
  classical
  induction S using Finset.induction_on with
  | empty => simp
  | insert a S ha ih =>
    rw [Finset.sum_insert ha, Finset.sum_insert ha, ← ih]
    exact EReal.left_distrib_of_nonneg_of_ne_top (by exact_mod_cast hc) (EReal.coe_ne_top _) _ _

/-- The whole column against the product of two sparse weight columns is the sum over the pairs of taps. -/
theorem sum_taps {ι κ : Type} [Fintype ι] [Fintype κ] (X : Fin 32 → Fin 32 → EReal) (a : ι → Fin 32) (b : κ → Fin 32)
    (u : ι → ℝ) (v : κ → ℝ) (hu : ∀ i, 0 ≤ u i) (hv : ∀ j, 0 ≤ v j) :
    (∑ h : Fin 32, ∑ w : Fin 32, X h w * (((∑ i, if h = a i then u i else 0) * (∑ j, if w = b j then v j else 0) : ℝ) : EReal))
      = ∑ i, ∑ j, X (a i) (b j) * ((u i * v j : ℝ) : EReal) := by
  have h1 : ∀ h w, X h w * (((∑ i, if h = a i then u i else 0) * (∑ j, if w = b j then v j else 0) : ℝ) : EReal)
      = ∑ i, ∑ j, X h w * (((if h = a i then u i else 0) * (if w = b j then v j else 0) : ℝ) : EReal) := by
    intro h w
    rw [Finset.sum_mul_sum, mul_coe_sum]
    · refine Finset.sum_congr rfl fun i _ => ?_
      rw [mul_coe_sum]
      intro j
      refine mul_nonneg ?_ ?_ <;> split_ifs <;> first | exact hu _ | exact hv _ | exact le_rfl
    · intro i
      refine Finset.sum_nonneg fun j _ => mul_nonneg ?_ ?_ <;> split_ifs <;> first | exact hu _ | exact hv _ | exact le_rfl
  calc _ = ∑ h : Fin 32, ∑ w : Fin 32, ∑ i, ∑ j, X h w * (((if h = a i then u i else 0) * (if w = b j then v j else 0) : ℝ) : EReal) :=
        Finset.sum_congr rfl fun h _ => Finset.sum_congr rfl fun w _ => h1 h w
    _ = ∑ h : Fin 32, ∑ i, ∑ j, ∑ w : Fin 32, X h w * (((if h = a i then u i else 0) * (if w = b j then v j else 0) : ℝ) : EReal) := by
        refine Finset.sum_congr rfl fun h _ => ?_
        rw [Finset.sum_comm]
        exact Finset.sum_congr rfl fun i _ => Finset.sum_comm
    _ = ∑ i, ∑ j, ∑ h : Fin 32, ∑ w : Fin 32, X h w * (((if h = a i then u i else 0) * (if w = b j then v j else 0) : ℝ) : EReal) := by
        rw [Finset.sum_comm]
        exact Finset.sum_congr rfl fun i _ => Finset.sum_comm
    _ = _ := by
        refine Finset.sum_congr rfl fun i _ => Finset.sum_congr rfl fun j _ => ?_
        rw [Finset.sum_eq_single (a i), Finset.sum_eq_single (b j)]
        · rw [if_pos rfl, if_pos rfl]
        · intro w _ hw; rw [if_neg hw]; simp
        · intro h; exact absurd (Finset.mem_univ _) h
        · intro h _ hh
          refine Finset.sum_eq_zero fun w _ => ?_
          rw [if_neg hh]; simp
        · intro h; exact absurd (Finset.mem_univ _) h

/-! ## The pooled value of one bin -/

/-- The sum over both samples and both neighbours of each axis that one output of the pooling is. -/
def pooled (X : Fin 32 → Fin 32 → EReal) (sy sx : Fin 2 → EReal) : EReal :=
  ∑ p : Fin 2 × Fin 2, ∑ q : Fin 2 × Fin 2, X (nbr (sy p.1) p.2) (nbr (sx q.1) q.2)
    * (((wt (sy p.1) p.2 * (ok (sy p.1) / 2)) * (wt (sx q.1) q.2 * (ok (sx q.1) / 2)) : ℝ) : EReal)

/-- A quarter of the sum over the four samples, each the sum over its four corners, is the sum over the sixteen. -/
theorem pooled_eq (X : Fin 32 → Fin 32 → EReal) (sy sx : Fin 2 → EReal) :
    Ideal.div (∑ q : Fin 2 × Fin 2, (∑ e : Fin 2, ∑ f : Fin 2, ((wt (sy q.1) e : ℝ) : EReal) * ((wt (sx q.2) f : ℝ) : EReal)
        * X (nbr (sy q.1) e) (nbr (sx q.2) f)) * ((ok (sy q.1) * ok (sx q.2) : ℝ) : EReal)) ((4 : ℝ) : EReal)
      = pooled X sy sx := by
  have term : ∀ k j : Fin 2, ((1 / 4 : ℝ) : EReal) * ((∑ e : Fin 2, ∑ f : Fin 2, ((wt (sy k) e : ℝ) : EReal) * ((wt (sx j) f : ℝ) : EReal)
        * X (nbr (sy k) e) (nbr (sx j) f)) * ((ok (sy k) * ok (sx j) : ℝ) : EReal))
      = ∑ e : Fin 2, ∑ f : Fin 2, X (nbr (sy k) e) (nbr (sx j) f)
          * (((wt (sy k) e * (ok (sy k) / 2)) * (wt (sx j) f * (ok (sx j) / 2)) : ℝ) : EReal) := by
    intro k j
    have hk : (0 : ℝ) ≤ 1 / 4 * (ok (sy k) * ok (sx j)) := by
      have := ok_nonneg (sy k); have := ok_nonneg (sx j); positivity
    rw [mul_comm _ ((ok (sy k) * ok (sx j) : ℝ) : EReal), ← mul_assoc, ← EReal.coe_mul, coe_mul_sum _ _ hk]
    refine Finset.sum_congr rfl fun e _ => ?_
    rw [coe_mul_sum _ _ hk]
    refine Finset.sum_congr rfl fun f _ => ?_
    rw [← EReal.coe_mul, ← mul_assoc, ← EReal.coe_mul, mul_comm]
    refine congrArg (fun z : ℝ => X _ _ * (z : EReal)) ?_
    ring
  rw [Ideal.div_coe (by norm_num), mul_comm, coe_mul_sum _ _ (by norm_num)]
  unfold pooled
  simp only [Fintype.sum_prod_type]
  refine Finset.sum_congr rfl fun k _ => ?_
  simp only [term]
  exact Finset.sum_comm

end Cert.RoiAlign

end

end
-- ==== Proof.Block.lean ====
/-
The kernel's one grid step, read at an element.

A step holds one image's 32 boxes (`x0`, as four rows of coordinates) and its 768 feature planes (`x1`, each
flattened to 1024 positions). Column `l` of the step's weight matrix belongs to region `l / 49` and to that region's
bin `(l % 49 / 7, l % 7)`; its entry at position `32 * h + w` is a row weight times a column weight. This module reads
the step's product at feature `c` and column `l`: the sixteen taps of the bin's four sample points.
-/
module

public import proofs.«01_k».proof.Proof.Gen.KernelIdeal.Frame
public import proofs.«01_k».proof.Proof.Sample

@[expose] public section

set_option maxRecDepth 16384

noncomputable section

namespace Cert.KernelIdeal.Block

open Idealize.ShloMosaic Idealize.ShloMosaic.TcCoe Idealize.SL.Sem
open Cert.KernelIdeal Cert.KernelIdeal.Gen Cert.RoiAlign
open scoped BigOperators

/-- The first named constant. -/
theorem inv_out : Named.named (F := Ideal) (φ := .f32) κ "inv_out" 0x3E124925#32 = ((1 / 7 : ℝ) : EReal) := rfl
/-- The second named constant. -/
theorem inv_rcols : Named.named (F := Ideal) (φ := .f32) κ "inv_rcols" 0x3CA72F05#32 = ((1 / 49 : ℝ) : EReal) := rfl

/-! ## The column's region and bin -/

/-- The region of a column: the floor of its scaled number. -/
theorem region_at (l : Fin 1568) : k0_pay4 (F := Ideal) (ix2 (0 : Fin 1) l) = ((((l : ℕ) / 49 : ℕ) : ℝ) : EReal) := by
  pointwise [k0_pay4, k0_pay3]
  rw [inv_rcols, f32_half, sitofp_ofNat (by omega), ← EReal.coe_add, ← EReal.coe_mul]
  have h := Nat.div_add_mod (l : ℕ) 49
  have h' := Nat.mod_lt (l : ℕ) (show 0 < 49 by norm_num)
  have hr : ((l : ℕ) : ℝ) = 49 * (((l : ℕ) / 49 : ℕ) : ℝ) + (((l : ℕ) % 49 : ℕ) : ℝ) := by exact_mod_cast h.symm
  have h0 : (0 : ℝ) ≤ (((l : ℕ) % 49 : ℕ) : ℝ) := Nat.cast_nonneg _
  have h1 : (((l : ℕ) % 49 : ℕ) : ℝ) ≤ 48 := by exact_mod_cast (by omega : (l : ℕ) % 49 ≤ 48)
  refine liftRound_nat _ _ ?_ ?_ <;> rw [hr] <;> linarith

theorem column_at (l : Fin 1568) : k0_pay3 (F := Ideal) (ix2 (0 : Fin 1) l) = (((l : ℕ) : ℝ) : EReal) := by
  pointwise [k0_pay3]
  exact sitofp_ofNat (by omega)

/-- The column's number inside its region. -/
theorem inner_at (l : Fin 1568) :
    k0_pay9 (F := Ideal) (k0_pay3 (F := Ideal)) (k0_pay4 (F := Ideal)) (ix2 (0 : Fin 1) l)
      = ((((l : ℕ) % 49 : ℕ) : ℝ) : EReal) := by
  pointwise [k0_pay9]
  rw [region_at, column_at, f32_bins, ← EReal.coe_mul, ← EReal.coe_sub]
  have h := Nat.div_add_mod (l : ℕ) 49
  have hr : ((l : ℕ) : ℝ) = 49 * (((l : ℕ) / 49 : ℕ) : ℝ) + (((l : ℕ) % 49 : ℕ) : ℝ) := by exact_mod_cast h.symm
  congr 1
  linarith

/-- The bin's row. -/
theorem binRow_at (l : Fin 1568) :
    k0_pay10 (F := Ideal) (k0_pay3 (F := Ideal)) (k0_pay4 (F := Ideal)) (ix2 (0 : Fin 1) l)
      = ((((l : ℕ) % 49 / 7 : ℕ) : ℝ) : EReal) := by
  pointwise [k0_pay10]
  rw [inner_at, inv_out, f32_half, ← EReal.coe_add, ← EReal.coe_mul]
  generalize (l : ℕ) % 49 = n
  have h := Nat.div_add_mod n 7
  have h' := Nat.mod_lt n (show 0 < 7 by norm_num)
  have hr : (n : ℝ) = 7 * ((n / 7 : ℕ) : ℝ) + ((n % 7 : ℕ) : ℝ) := by exact_mod_cast h.symm
  have h0 : (0 : ℝ) ≤ ((n % 7 : ℕ) : ℝ) := Nat.cast_nonneg _
  have h1 : ((n % 7 : ℕ) : ℝ) ≤ 6 := by exact_mod_cast (by omega : n % 7 ≤ 6)
  refine liftRound_nat _ _ ?_ ?_ <;> rw [hr] <;> linarith

/-- The bin's column. -/
theorem binCol_at (l : Fin 1568) :
    k0_pay11 (F := Ideal) (k0_pay3 (F := Ideal)) (k0_pay4 (F := Ideal)) (ix2 (0 : Fin 1) l)
      = ((((l : ℕ) % 49 % 7 : ℕ) : ℝ) : EReal) := by
  pointwise [k0_pay11]
  rw [inner_at, binRow_at, f32_seven, ← EReal.coe_mul, ← EReal.coe_sub]
  generalize (l : ℕ) % 49 = n
  have h := Nat.div_add_mod n 7
  have hr : (n : ℝ) = 7 * ((n / 7 : ℕ) : ℝ) + ((n % 7 : ℕ) : ℝ) := by exact_mod_cast h.symm
  congr 1
  linarith

/-! ## The boxes' parameters, and the one-hot product that picks a column's -/

section Block
variable (x0 : FVec Ideal S1x4x32 .f32) (x1 : FVec Ideal S1x768x1024 .f32)

theorem params0 (r : Fin 32) : k0_pay73 (F := Ideal) x0 x1 (ix2 (0 : Fin 4) r) = edge (x0 (ix3 0 1 r)) := by
  pointwise [k0_pay73, k0_pay2]; rfl
theorem params1 (r : Fin 32) :
    k0_pay73 (F := Ideal) x0 x1 (ix2 (1 : Fin 4) r) = extent (x0 (ix3 0 1 r)) (x0 (ix3 0 3 r)) := by
  pointwise [k0_pay73, k0_pay2]; rfl
theorem params2 (r : Fin 32) : k0_pay73 (F := Ideal) x0 x1 (ix2 (2 : Fin 4) r) = edge (x0 (ix3 0 0 r)) := by
  pointwise [k0_pay73, k0_pay2]; rfl
theorem params3 (r : Fin 32) :
    k0_pay73 (F := Ideal) x0 x1 (ix2 (3 : Fin 4) r) = extent (x0 (ix3 0 0 r)) (x0 (ix3 0 2 r)) := by
  pointwise [k0_pay73, k0_pay2]; rfl

/-- The region of a column, as an index. -/
def reg (l : Fin 1568) : Fin 32 := ⟨(l : ℕ) / 49, by omega⟩

/-- The product with the one-hot matrix reads the column's region. -/
theorem pick_at (i : Fin 4) (l : Fin 1568) :
    k0_pay79 (F := Ideal) x0 x1 (ix2 i l) = k0_pay73 (F := Ideal) x0 x1 (ix2 i (reg l)) := by
  pointwise [k0_pay79, k0_pay78, k0_pay77, k0_pay76, k0_pay8, k0_pay5, k0_pay6, k0_pay7]
  rw [region_at, Finset.sum_eq_single (reg l)]
  · rw [sitofp_ofNat (by omega)]
    exact (congrArg _ (if_pos rfl)).trans (mul_one _)
  · intro r _ hr
    rw [sitofp_ofNat (by omega), if_neg, mul_zero]
    rw [EReal.coe_eq_coe_iff, Nat.cast_inj]
    exact fun h => hr (Fin.ext h)
  · intro h; exact absurd (Finset.mem_univ _) h

/-! ## The two axes' weight columns -/

/-- Sample `k` of column `l`'s bin, down the rows. -/
def rowSpot (l : Fin 1568) (k : Fin 2) : EReal :=
  spot (x0 (ix3 0 1 (reg l))) (x0 (ix3 0 3 (reg l))) ((l : ℕ) % 49 / 7) k
/-- Sample `k` of column `l`'s bin, across the columns. -/
def colSpot (l : Fin 1568) (k : Fin 2) : EReal :=
  spot (x0 (ix3 0 0 (reg l))) (x0 (ix3 0 2 (reg l))) ((l : ℕ) % 49 % 7) k

theorem spot_zero (a b : EReal) (o : ℕ) :
    edge a + (((2 : ℝ) : EReal) * ((o : ℝ) : EReal) + ((1 / 2 : ℝ) : EReal)) * ((1 / 2 : ℝ) : EReal) * extent a b
      = spot a b o 0 := by
  rw [← EReal.coe_mul, ← EReal.coe_add, ← EReal.coe_mul]
  unfold spot
  congr 3
  simp
theorem spot_one (a b : EReal) (o : ℕ) :
    edge a + (((2 : ℝ) : EReal) * ((o : ℝ) : EReal) + 1 + ((1 / 2 : ℝ) : EReal)) * ((1 / 2 : ℝ) : EReal) * extent a b
      = spot a b o 1 := by
  rw [← EReal.coe_one, ← EReal.coe_mul, ← EReal.coe_add, ← EReal.coe_add, ← EReal.coe_mul]
  unfold spot
  congr 3
  simp

theorem rowSpot0_at (l : Fin 1568) :
    k0_pay16 (F := Ideal) (k0_pay73 x0 x1) (k0_pay74 x0 x1) (k0_pay75 x0 x1) (k0_pay76 (F := Ideal) x0 x1) (k0_pay77 x0 x1)
      (k0_pay78 x0 x1) (ix2 (0 : Fin 1) l) = rowSpot x0 l 0 := by
  have h0 := pick_at x0 x1 0 l
  have h1 := pick_at x0 x1 1 l
  have h2 := binRow_at l
  rw [params0] at h0
  rw [params1] at h1
  unfold k0_pay79 at h0 h1
  pointwise [k0_pay16, k0_pay12, k0_pay13, k0_pay74, k0_pay75]
  rw [h0, h1, h2, f32_half, f32_two]
  exact spot_zero _ _ _
theorem rowSpot1_at (l : Fin 1568) :
    k0_pay23 (F := Ideal) (k0_pay80 x0 x1) (k0_pay82 x0 x1) (k0_pay83 x0 x1) (ix2 (0 : Fin 1) l)
      = rowSpot x0 l 1 := by
  have h0 := pick_at x0 x1 0 l
  have h1 := pick_at x0 x1 1 l
  have h2 := binRow_at l
  rw [params0] at h0
  rw [params1] at h1
  unfold k0_pay79 at h0 h1
  pointwise [k0_pay23, k0_pay80, k0_pay82, k0_pay83, k0_pay12, k0_pay13, k0_pay74, k0_pay75]
  rw [h0, h1, h2, f32_half, f32_two]
  exact spot_one _ _ _
theorem colSpot0_at (l : Fin 1568) :
    k0_pay33 (F := Ideal) (k0_pay79 x0 x1) (k0_pay81 x0 x1) (ix2 (0 : Fin 1) l) = colSpot x0 l 0 := by
  have h0 := pick_at x0 x1 2 l
  have h1 := pick_at x0 x1 3 l
  have h2 := binCol_at l
  rw [params2] at h0
  rw [params3] at h1
  pointwise [k0_pay33, k0_pay29, k0_pay30, k0_pay81, k0_pay74, k0_pay75]
  rw [h0, h1, h2, f32_half, f32_two]
  exact spot_zero _ _ _
theorem colSpot1_at (l : Fin 1568) : k0_pay90 (F := Ideal) x0 x1 (ix2 (0 : Fin 1) l) = colSpot x0 l 1 := by
  have h0 := pick_at x0 x1 2 l
  have h1 := pick_at x0 x1 3 l
  have h2 := binCol_at l
  rw [params2] at h0
  rw [params3] at h1
  pointwise [k0_pay90, k0_pay36, k0_pay86, k0_pay87, k0_pay29, k0_pay30, k0_pay81, k0_pay74, k0_pay75]
  rw [h0, h1, h2, f32_half, f32_two]
  exact spot_one _ _ _

/-- The validity factor of the first row sample. -/
theorem rowValid0_at (l : Fin 1568) :
    k0_pay17 (F := Ideal) (k0_pay73 x0 x1) (k0_pay74 x0 x1) (k0_pay75 x0 x1) (k0_pay76 (F := Ideal) x0 x1) (k0_pay77 x0 x1)
      (k0_pay78 x0 x1) (ix2 (0 : Fin 1) l) = ((ok (rowSpot x0 l 0) / 2 : ℝ) : EReal) := by
  pointwise [k0_pay17]
  rw [rowSpot0_at, f32_half, f32_neg_one, f32_extent]
  exact select_valid _
theorem rowValid1_at (l : Fin 1568) :
    k0_pay24 (F := Ideal) (k0_pay80 x0 x1) (k0_pay82 x0 x1) (k0_pay83 x0 x1) (ix2 (0 : Fin 1) l)
      = ((ok (rowSpot x0 l 1) / 2 : ℝ) : EReal) := by
  pointwise [k0_pay24]
  rw [rowSpot1_at, f32_half, f32_neg_one, f32_extent]
  exact select_valid _
theorem colValid0_at (l : Fin 1568) :
    k0_pay34 (F := Ideal) (k0_pay79 x0 x1) (k0_pay81 x0 x1) (ix2 (0 : Fin 1) l)
      = ((ok (colSpot x0 l 0) / 2 : ℝ) : EReal) := by
  pointwise [k0_pay34]
  rw [colSpot0_at, f32_half, f32_neg_one, f32_extent]
  exact select_valid _
theorem colValid1_at (l : Fin 1568) :
    k0_pay91 (F := Ideal) x0 x1 (ix2 (0 : Fin 1) l) = ((ok (colSpot x0 l 1) / 2 : ℝ) : EReal) := by
  have h := colSpot1_at x0 x1 l
  unfold k0_pay90 at h
  pointwise [k0_pay91, k0_pay37]
  rw [h, f32_half, f32_neg_one, f32_extent]
  exact select_valid _

/-- The row weight of position `h` in column `l`: its four taps. -/
theorem rowWeight_at (h : Fin 32) (l : Fin 1568) :
    k0_pay85 (F := Ideal) x0 x1 (ix2 h l) = ((∑ p : Fin 2 × Fin 2, tap (rowSpot x0 l p.1) p.2 h : ℝ) : EReal) := by
  pointwise [k0_pay85, k0_pay28, k0_pay22, k0_pay25, k0_pay26, k0_pay27, k0_pay18, k0_pay19, k0_pay20, k0_pay84,
    k0_pay14, k0_pay15, k0_pay21]
  rw [rowSpot0_at, rowSpot1_at, rowValid0_at, rowValid1_at, f32_last, sitofp_ofNat (by omega)]
  simp only [← clip.eq_1, floor_clip, next_clip, clip_sub, tap_lo, tap_hi]
  rw [← EReal.coe_add, ← EReal.coe_add, ← EReal.coe_add, Fintype.sum_prod_type]
  congr 1
  simp only [Fin.sum_univ_two]
  ring

/-- The column weight of position `w` in column `l`: its four taps. -/
theorem colWeight_at (w : Fin 32) (l : Fin 1568) :
    k0_pay89 (F := Ideal) x0 x1 (ix2 w l) = ((∑ p : Fin 2, tap (colSpot x0 l 0) p w : ℝ) : EReal) := by
  pointwise [k0_pay89, k0_pay35, k0_pay88, k0_pay31, k0_pay32]
  rw [colSpot0_at, colValid0_at, f32_last, sitofp_ofNat (by omega)]
  simp only [← clip.eq_1, floor_clip, next_clip, clip_sub, tap_lo, tap_hi]
  rw [← EReal.coe_add]
  congr 1
  simp only [Fin.sum_univ_two]

/-- The column weight with its second sample's taps added. -/
theorem colWeights_at (w : Fin 32) (l : Fin 1568) (z v : EReal) (hz : z = colSpot x0 l 1)
    (hv : v = ((ok (colSpot x0 l 1) / 2 : ℝ) : EReal)) :
    (k0_pay89 (F := Ideal) x0 x1 (ix2 w l)
        + if FloatOps.sitofp (F := Ideal) .f32 (BitVec.ofNat 32 (w : ℕ))
            = Ideal.liftRound Int.floor (min (Ideal.ofBits .f32 1106771968#32) (max 0 z)) then
          (1 - (min (Ideal.ofBits .f32 1106771968#32) (max 0 z)
            - Ideal.liftRound Int.floor (min (Ideal.ofBits .f32 1106771968#32) (max 0 z))))
            * v
          else 0)
      + (if FloatOps.sitofp (F := Ideal) .f32 (BitVec.ofNat 32 (w : ℕ))
            = min (Ideal.liftRound Int.floor
              (min (Ideal.ofBits .f32 1106771968#32) (max 0 z)) + 1)
              (Ideal.ofBits .f32 1106771968#32) then
          (min (Ideal.ofBits .f32 1106771968#32) (max 0 z)
            - Ideal.liftRound Int.floor (min (Ideal.ofBits .f32 1106771968#32) (max 0 z)))
            * v
          else 0)
      = ((∑ q : Fin 2 × Fin 2, tap (colSpot x0 l q.1) q.2 w : ℝ) : EReal) := by
  rw [colWeight_at, hz, hv, f32_last, sitofp_ofNat (by omega)]
  simp only [← clip.eq_1, floor_clip, next_clip, clip_sub, tap_lo, tap_hi]
  rw [← EReal.coe_add, ← EReal.coe_add]
  refine congrArg ((↑) : ℝ → EReal) ?_
  rw [Fintype.sum_prod_type]
  simp only [Fin.sum_univ_two]
  ring

/-- The matrix product, at channel `c` and column `l`, as a sum over the positions of the feature map. -/
theorem product_sum (c : Fin 768) (l : Fin 1568) :
    k0_pay92 (F := Ideal) x0 x1 (ix2 c l)
      = ∑ n : Fin 1024, x1 (ix3 0 c n)
        * (((∑ p : Fin 2 × Fin 2, tap (rowSpot x0 l p.1) p.2 ⟨(n : ℕ) / 32, by omega⟩)
          * (∑ q : Fin 2 × Fin 2, tap (colSpot x0 l q.1) q.2 ⟨(n : ℕ) % 32, by omega⟩) : ℝ) : EReal) := by
  pointwise [k0_pay92, k0_pay38, k0_pay88, k0_pay31]
  refine Finset.sum_congr rfl fun n _ => congrArg₂ (· * ·) (Eq.refl (x1 _)) ?_
  refine Eq.trans ?_ (EReal.coe_mul _ _).symm
  exact congrArg₂ (· * ·) (rowWeight_at x0 x1 _ l) (colWeights_at x0 x1 _ l _ _ (colSpot1_at x0 x1 l) (colValid1_at x0 x1 l))

/-- The matrix product, at channel `c` and column `l`, is the pooled value. -/
theorem product_at (c : Fin 768) (l : Fin 1568) :
    k0_pay92 (F := Ideal) x0 x1 (ix2 c l)
      = pooled (fun h w => x1 (ix3 0 c ⟨(h : ℕ) * 32 + (w : ℕ), by omega⟩)) (rowSpot x0 l) (colSpot x0 l) := by
  rw [product_sum, Fin.sum_univ_tiles 32 32 rfl]
  refine (Finset.sum_congr rfl fun h _ => Finset.sum_congr rfl fun w _ => ?_).trans
    (sum_taps (fun h w => x1 (ix3 0 c ⟨(h : ℕ) * 32 + (w : ℕ), by omega⟩))
      (fun p : Fin 2 × Fin 2 => nbr (rowSpot x0 l p.1) p.2) (fun q : Fin 2 × Fin 2 => nbr (colSpot x0 l q.1) q.2)
      (fun p => wt (rowSpot x0 l p.1) p.2 * (ok (rowSpot x0 l p.1) / 2))
      (fun q => wt (colSpot x0 l q.1) q.2 * (ok (colSpot x0 l q.1) / 2))
      (fun p => mul_nonneg (wt_nonneg _ _) (by have := ok_nonneg (rowSpot x0 l p.1); positivity))
      (fun q => mul_nonneg (wt_nonneg _ _) (by have := ok_nonneg (colSpot x0 l q.1); positivity)))
  have hh : ((h : ℕ) * 32 + (w : ℕ)) / 32 = (h : ℕ) := by omega
  have hw : ((h : ℕ) * 32 + (w : ℕ)) % 32 = (w : ℕ) := by omega
  have ew : (⟨((h : ℕ) * 32 + (w : ℕ)) % 32, by omega⟩ : Fin 32) = w := Fin.ext hw
  have eh : (⟨((h : ℕ) * 32 + (w : ℕ)) / 32, by omega⟩ : Fin 32) = h := Fin.ext hh
  refine congrArg₂ (· * ·) (Eq.refl (x1 _)) ?_
  dsimp only
  rw [ew, eh]
  rfl

end Block

end Cert.KernelIdeal.Block

end

end
-- ==== Proof.Out.lean ====
/-
The kernel's one grid step, its store: box `r`'s 49 columns of the product are row `r` of the step's output block.
-/
module

public import proofs.«01_k».proof.Proof.Block
public import Idealize.ShloMosaic.Lib.Pipeline.ValueKit

@[expose] public section

set_option maxRecDepth 16384

noncomputable section

namespace Cert.KernelIdeal.Block

open Idealize.ShloMosaic Idealize.ShloMosaic.TcCoe Idealize.SL.Sem
open Cert.KernelIdeal Cert.KernelIdeal.Gen Cert.RoiAlign
open scoped BigOperators

/-- The first box's piece is cut from the same product as the others. -/
theorem piece_zero (x0 : FVec Ideal S1x4x32 .f32) (x1 : FVec Ideal S1x768x1024 .f32) :
    k0_pay39 (k0_pay85 x0 x1) (k0_pay88 x0 x1) (k0_pay89 x0 x1) (k0_pay90 x0 x1) (k0_pay91 x0 x1)
      (Scalar.ofBits (F := Ideal) .f32 0x00000000#32) (View.ld x1 r0_1)
      = k0_pay41 (extractStridedSlice S768x49 ![0, 0] (k0_pay92 x0 x1) slices_S768x1568_o0_0_S768x49) := by
  unfold k0_pay39 k0_pay41 k0_pay92
  rfl
/-- So is the second's. -/
theorem piece_one (x0 : FVec Ideal S1x4x32 .f32) (x1 : FVec Ideal S1x768x1024 .f32) :
    k0_pay40 (k0_pay85 x0 x1) (k0_pay88 x0 x1) (k0_pay89 x0 x1) (k0_pay90 x0 x1) (k0_pay91 x0 x1)
      (Scalar.ofBits (F := Ideal) .f32 0x00000000#32) (View.ld x1 r0_1)
      = extractStridedSlice S768x49 ![0, 49] (k0_pay92 x0 x1) slices_S768x1568_o0_49_S768x49 := by
  unfold k0_pay40 k0_pay92
  rfl

set_option maxHeartbeats 1600000 in
/-- The step's output at region `r`, feature `c` and bin `j` is the product at the region's column `j`. -/
theorem out_at (x0 : FVec Ideal S1x4x32 .f32) (x1 : FVec Ideal S1x768x1024 .f32) (y : S32x768x49.Idx) :
    out0_2 (F := Ideal) x0 x1 y
      = k0_pay92 (F := Ideal) x0 x1 (ix2 ⟨(y 1 : ℕ), (y 1).isLt⟩
          ⟨(y 0 : ℕ) * 49 + (y 2 : ℕ), by have h0 : (y 0 : ℕ) < 32 := (y 0).isLt; have h2 : (y 2 : ℕ) < 49 := (y 2).isLt; omega⟩) := by
  unfold out0_2
  rw [piece_zero, piece_one]
  generalize k0_pay92 (F := Ideal) x0 x1 = P
  canon_tiles x h
  all_goals (open_payloads; pointwise; blk_ext)

end Cert.KernelIdeal.Block

end

end
-- ==== Proof.Value.lean ====
/-
The kernel's result, read at an element: the four images' output blocks tile the array, and the last reshape splits
a box's 49 bins into rows and columns.
-/
module

public import proofs.«01_k».proof.Proof.Out
public import Idealize.ShloMosaic.Lib.Claim

@[expose] public section

set_option maxRecDepth 16384

noncomputable section

namespace Cert.KernelIdeal.Block

open Idealize.ShloMosaic Idealize.ShloMosaic.TcCoe Idealize.SL.Sem
open Idealize.ShloMosaic.Pipeline (Dat)
open Cert.KernelIdeal Cert.KernelIdeal.Gen Cert.RoiAlign
open scoped BigOperators

/-- One output of the pooling: box `r` (number `r % 32` of image `r / 32`), feature `c`, bin `(oy, ox)`. -/
def bin (feat : FVec Ideal S4x768x32x32 .f32) (boxes : FVec Ideal S4x32x4 .f32) (r : Fin 128) (c : Fin 768)
    (oy ox : ℕ) : EReal :=
  pooled (fun h w => feat (ix4 ⟨(r : ℕ) / 32, by omega⟩ c h w))
    (fun k => spot (boxes (ix3 ⟨(r : ℕ) / 32, by omega⟩ ⟨(r : ℕ) % 32, by omega⟩ 1))
      (boxes (ix3 ⟨(r : ℕ) / 32, by omega⟩ ⟨(r : ℕ) % 32, by omega⟩ 3)) oy k)
    (fun k => spot (boxes (ix3 ⟨(r : ℕ) / 32, by omega⟩ ⟨(r : ℕ) % 32, by omega⟩ 0))
      (boxes (ix3 ⟨(r : ℕ) / 32, by omega⟩ ⟨(r : ℕ) % 32, by omega⟩ 2)) ox k)

/-- The region's result array, the 49 bins of a box in one row. -/
def rows (feat : FVec Ideal S4x768x32x32 .f32) (boxes : FVec Ideal S4x32x4 .f32) : FVec Ideal S128x768x49 .f32 :=
  fun i => bin feat boxes ⟨(i 0 : ℕ), (i 0).isLt⟩ ⟨(i 1 : ℕ), (i 1).isLt⟩ ((i 2 : ℕ) / 7) ((i 2 : ℕ) % 7)

variable (m : (ℓ : Loc nD τ sig) → Buf (Elt Ideal) ℓ)

theorem idx : ∀ t : Fin cfg0.N, win0_0.index t = ![t.val, 0, 0] ∧ win0_1.index t = ![t.val, 0, 0]
    ∧ win0_2.index t = ![t.val, 0, 0] ∧ t.val < 4 :=
  (by decide +kernel : ∀ t : Fin grid0.N, _)

/-- The boxes as the region finds them: each image's, coordinates leading. -/
theorem entry_boxes (c : Dev nD) : V m c main_v1
    = transpose S4x4x32 [0, 2, 1] (m ((c : Thread nD τ).loc main_arg1) : FVec Ideal S4x32x4 .f32)
      transposes_S4x32x4_S4x4x32_0_2_1 := by
  entry_read
  rfl
/-- The features as the region finds them: a plane's positions in one row. -/
theorem entry_feat (c : Dev nD) : V m c main_v0
    = shapeCast S4x768x1024 (m ((c : Thread nD τ).loc main_arg0) : FVec Ideal S4x768x32x32 .f32)
      shapeCasts_S4x768x32x32_S4x768x1024 := by
  entry_read
  rfl

/-- The boxes' block at point `t`: image `t`, the coordinates leading. -/
theorem boxes_at (c : Dev nD) (t : Fin cfg0.N) (k : Fin 4) (r : Fin 32) :
    iblk m c 0 t (ix3 (0 : Fin 1) k r)
      = (m ((c : Thread nD τ).loc main_arg1) : FVec Ideal S4x32x4 .f32) (ix3 ⟨t.val, (idx t).2.2.2⟩ r k) := by
  unfold iblk
  rw [show V m c (Pipeline.arrRef spec0 0) = _ from entry_boxes m c]
  blk_simp []
  rw [show (win0_0.blk t).view.emb (ix3 (0 : Fin 1) k r) = ix3 (⟨t.val, (idx t).2.2.2⟩ : Fin 4) k r by
    blk_ext [idx t]]
  pointwise

/-- The feature planes' block at point `t`: image `t`, its positions in one row. -/
theorem feat_at (c : Dev nD) (t : Fin cfg0.N) (k : Fin 768) (n : Fin 1024) :
    iblk m c 1 t (ix3 (0 : Fin 1) k n)
      = (m ((c : Thread nD τ).loc main_arg0) : FVec Ideal S4x768x32x32 .f32)
        (ix4 ⟨t.val, (idx t).2.2.2⟩ k ⟨(n : ℕ) / 32, by omega⟩ ⟨(n : ℕ) % 32, by omega⟩) := by
  unfold iblk
  rw [show V m c (Pipeline.arrRef spec0 1) = _ from entry_feat m c]
  blk_simp []
  rw [show (win0_1.blk t).view.emb (ix3 (0 : Fin 1) k n) = ix3 (⟨t.val, (idx t).2.2.2⟩ : Fin 4) k n by
    blk_ext [idx t]]
  pointwise

/-- What step `t` leaves for its box `r`, feature `k` and bin `j` is the pooled bin of box `32 t + r`. -/
theorem step_at (c : Dev nD) (t : Fin cfg0.N) (ht : t.val < 4) (r : Fin 32) (k : Fin 768) (j : Fin 49) :
    out0_2 (F := Ideal) (iblk m c 0 t) (iblk m c 1 t) (ix3 r k j)
      = bin (m ((c : Thread nD τ).loc main_arg0)) (m ((c : Thread nD τ).loc main_arg1))
        ⟨t.val * 32 + (r : ℕ), by omega⟩ k ((j : ℕ) / 7) ((j : ℕ) % 7) := by
  refine (out_at _ _ (ix3 r k j)).trans ?_
  refine (product_at _ _ k ⟨(r : ℕ) * 49 + (j : ℕ), by omega⟩).trans ?_
  have hr : reg ⟨(r : ℕ) * 49 + (j : ℕ), by omega⟩ = r := Fin.ext (by show ((r : ℕ) * 49 + (j : ℕ)) / 49 = _; omega)
  have hb : (⟨(t.val * 32 + (r : ℕ)) / 32, by omega⟩ : Fin 4) = ⟨t.val, ht⟩ :=
    Fin.ext (show (t.val * 32 + (r : ℕ)) / 32 = t.val by omega)
  have hn : (⟨(t.val * 32 + (r : ℕ)) % 32, by omega⟩ : Fin 32) = r :=
    Fin.ext (show (t.val * 32 + (r : ℕ)) % 32 = (r : ℕ) by omega)
  have hj : ((r : ℕ) * 49 + (j : ℕ)) % 49 = (j : ℕ) := by omega
  unfold rowSpot colSpot bin
  dsimp only
  rw [hr, hb, hn, hj, boxes_at, boxes_at, boxes_at, boxes_at]
  refine congrArg (fun X => pooled X _ _) (funext fun h => funext fun w => (feat_at m c t k _).trans ?_)
  have hh : (⟨((h : ℕ) * 32 + (w : ℕ)) / 32, by omega⟩ : Fin 32) = h :=
    Fin.ext (show ((h : ℕ) * 32 + (w : ℕ)) / 32 = (h : ℕ) by omega)
  have hw : (⟨((h : ℕ) * 32 + (w : ℕ)) % 32, by omega⟩ : Fin 32) = w :=
    Fin.ext (show ((h : ℕ) * 32 + (w : ℕ)) % 32 = (w : ℕ) by omega)
  dsimp only
  rw [hh, hw]

/-- The same at the block's index `y`: the array at the index `y` sits at. -/
theorem point (c : Dev nD) (t : Fin cfg0.N) (y : S32x768x49.Idx) :
    out0_2 (F := Ideal) (iblk m c 0 t) (iblk m c 1 t) y
      = rows (m ((c : Thread nD τ).loc main_arg0)) (m ((c : Thread nD τ).loc main_arg1)) ((win0_2.blk t).view.emb y) := by
  have ht := (idx t).2.2.2
  rw [show (win0_2.blk t).view.emb y = ix3 (⟨t.val * 32 + (y 0 : ℕ), by have h : (y 0 : ℕ) < 32 := (y 0).isLt; omega⟩ : Fin 128)
    (⟨(y 1 : ℕ), (y 1).isLt⟩ : Fin 768) (⟨(y 2 : ℕ), (y 2).isLt⟩ : Fin 49) by blk_ext [idx t]]
  idx_vars y
  exact step_at m c t ht y0 y1 y2

/-- The region's result array after the run. -/
theorem final (c : Dev nD) : (dats m 0 c).arrAt 2 (cfgs 0).N
    = rows (m ((c : Thread nD τ).loc main_arg0)) (m ((c : Thread nD τ).loc main_arg1)) := by
  refine (dats m 0 c).arrAt_eq_of_covers 2 _ (by decide +kernel) fun t _ y => ?_
  blk_simp
  rw [after0_2]
  exact point m c t y

/-- The run: the last reshape of the region's result array. -/
theorem run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v3)
        = shapeCast S128x768x7x7 (rows (m ((c : Thread nD τ).loc main_arg0)) (m ((c : Thread nD τ).loc main_arg1)))
          shapeCasts_S128x768x49_S128x768x7x7
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  run_from run_main m ρ
  · unfold Pipeline.afterTail₀
    rw [← final m c]
    simp only [hostOps1, List.flatten_cons, List.flatten_nil, List.append_nil, StableHlo.after_cons, StableHlo.after_nil]
    rw [StableHlo.reshape_result]
    rw [show Pipeline.withArrays (cfgs 0).spec c (V0 m c) (fun w => (dats m 0 c).arrAt w (cfgs 0).N) (Proc.devRef .tc main_v2)
      = (dats m 0 c).arrAt 2 (cfgs 0).N from Pipeline.withArrays_arr spec0 (by decide) c _ _ 2]
    rfl
  · exact W_main_arg0 m (dats m) c
  · exact W_main_arg1 m (dats m) c

end Cert.KernelIdeal.Block

end

end
-- ==== Proof.Ref.lean ====
/-
The reference's arrays, read at an element: the sample positions, their neighbours and weights, and the gather.
-/
module

public import proofs.«01_k».proof.Proof.Gen.ReferenceIdeal.Run
public import proofs.«01_k».proof.Proof.Sample
public import Idealize.ShloMosaic.Lib.Pointwise

@[expose] public section

set_option maxRecDepth 16384

noncomputable section

namespace Cert.ReferenceIdeal.Block

open Idealize.ShloMosaic Idealize.ShloMosaic.TcCoe Idealize.SL.Sem
open Cert.ReferenceIdeal Cert.ReferenceIdeal.Gen Cert.ReferenceIdeal.Value Idealize.ShloMosaic.StableHlo Cert.RoiAlign
open scoped BigOperators

/-- Sample number `l` of the fourteen along an axis of the box from `a` to `b`. -/
def sample (a b : EReal) (l : ℕ) : EReal := edge a + ((((l : ℝ) + 1 / 2) * (1 / 2) : ℝ) : EReal) * extent a b

/-- Bin `o` holds the samples `2 o` and `2 o + 1`. -/
theorem sample_eq (a b : EReal) (o : ℕ) (k : Fin 2) : sample a b (2 * o + (k : ℕ)) = spot a b o k := by
  unfold sample spot
  push_cast
  rfl

section Arrays
variable (V0 : Valuation τ sig (Elt Ideal))

/-- The features argument. -/
abbrev feat : FVec Ideal S4x768x32x32 .f32 := V0 (Proc.devRef .tc main_arg0)
/-- The boxes argument. -/
abbrev boxes : FVec Ideal S4x32x4 .f32 := V0 (Proc.devRef .tc main_arg1)

/-- Coordinate `k` of box `r`. -/
def side (r : Fin 128) (k : Fin 4) : EReal := boxes V0 (ix3 ⟨(r : ℕ) / 32, by omega⟩ ⟨(r : ℕ) % 32, by omega⟩ k)

/-- The boxes' table, first column: the number of the box's image. -/
theorem image_at (r : Fin 128) :
    (res_main_v5 V0 : FVec Ideal S128x5 .f32) (ix2 r (0 : Fin 5)) = ((((r : ℕ) / 32 : ℕ) : ℝ) : EReal) := by
  pointwise [res_main_v5]
  exact sitofp_ofNat (by omega)
/-- The boxes' table, the other columns: the box's four coordinates. -/
theorem coord_at (r : Fin 128) (k : Fin 4) :
    (res_main_v5 V0 : FVec Ideal S128x5 .f32) (ix2 r (⟨(k : ℕ) + 1, by omega⟩ : Fin 5)) = side V0 r k := by
  unfold side
  pointwise [res_main_v5]
  rw [dif_neg (by omega)]
  rfl
/-- The box's left edge, on the feature plane's scale. -/
theorem left_at (r : Fin 128) : (res_main_v14 V0 : FVec Ideal S128 .f32) (ix1 r) = edge (side V0 r 0) := by
  have h := coord_at V0 r 0
  pointwise [res_main_v14]
  exact congrArg edge h
/-- The box's top edge, on the feature plane's scale. -/
theorem top_at (r : Fin 128) : (res_main_v20 V0 : FVec Ideal S128 .f32) (ix1 r) = edge (side V0 r 1) := by
  have h := coord_at V0 r 1
  pointwise [res_main_v20]
  exact congrArg edge h
/-- How many bin lengths sample `l` lies from the box's edge. -/
theorem offset_at (l : Fin 14) :
    (res_main_v43 V0 : FVec Ideal S14 .f32) (ix1 l) = (((((l : ℕ) : ℝ) + 1 / 2) * (1 / 2) : ℝ) : EReal) := by
  pointwise [res_main_v43]
  rw [f32_half, f32_two, sitofp_ofNat (by omega), ← EReal.coe_add, Ideal.div_coe (by norm_num), ← EReal.coe_mul]
/-- The sample positions down the rows. -/
theorem row_at (r : Fin 128) (l : Fin 14) :
    (res_main_v51 V0 : FVec Ideal S128x14 .f32) (ix2 r l) = sample (side V0 r 1) (side V0 r 3) l := by
  have h := coord_at V0 r 3
  pointwise [res_main_v51]
  rw [top_at, offset_at, f32_seven, Ideal.div_coe (by norm_num)]
  refine congrArg (fun z => edge (side V0 r 1) + ((((l : ℕ) : ℝ) + 1 / 2) * (1 / 2) : ℝ) * ((edge z - edge (side V0 r 1)) * _)) h |>.trans ?_
  unfold sample extent
  norm_num
/-- The sample positions across the columns. -/
theorem col_at (r : Fin 128) (l : Fin 14) :
    (res_main_v59 V0 : FVec Ideal S128x14 .f32) (ix2 r l) = sample (side V0 r 0) (side V0 r 2) l := by
  have h := coord_at V0 r 2
  pointwise [res_main_v59]
  rw [left_at, offset_at, f32_seven, Ideal.div_coe (by norm_num)]
  refine congrArg (fun z => edge (side V0 r 0) + ((((l : ℕ) : ℝ) + 1 / 2) * (1 / 2) : ℝ) * ((edge z - edge (side V0 r 0)) * _)) h |>.trans ?_
  unfold sample extent
  norm_num

/-- The sample positions of box `r` down the rows. -/
abbrev rowPos (r : Fin 128) (l : Fin 14) : EReal := sample (side V0 r 1) (side V0 r 3) l
/-- The sample positions of box `r` across the columns. -/
abbrev colPos (r : Fin 128) (l : Fin 14) : EReal := sample (side V0 r 0) (side V0 r 2) l

/-- The row position, clipped. -/
theorem rowClip_at (r : Fin 128) (l : Fin 14) :
    (res_main_v70 V0 : FVec Ideal S128x14 .f32) (ix2 r l) = clip (rowPos V0 r l) := by
  pointwise [res_main_v70]
  rw [row_at]
  exact congrArg₂ (fun a b : EReal => min a (max b _)) f32_last (Ideal.ofBits_zero .f32)
/-- The column position, clipped. -/
theorem colClip_at (r : Fin 128) (l : Fin 14) :
    (res_main_v71 V0 : FVec Ideal S128x14 .f32) (ix2 r l) = clip (colPos V0 r l) := by
  pointwise [res_main_v71]
  rw [col_at]
  exact congrArg₂ (fun a b : EReal => min a (max b _)) f32_last (Ideal.ofBits_zero .f32)
/-- The row at or above the sample, as a word. -/
theorem rowLo_at (r : Fin 128) (l : Fin 14) :
    (res_main_v73 V0 : IVec S128x14 32) (ix2 r l) = BitVec.ofNat 32 (lo (rowPos V0 r l) : ℕ) := by
  pointwise [res_main_v73]
  rw [rowClip_at, floor_clip]
  exact fptosi_lo _
/-- The column at or left of the sample, as a word. -/
theorem colLo_at (r : Fin 128) (l : Fin 14) :
    (res_main_v75 V0 : IVec S128x14 32) (ix2 r l) = BitVec.ofNat 32 (lo (colPos V0 r l) : ℕ) := by
  pointwise [res_main_v75]
  rw [colClip_at, floor_clip]
  exact fptosi_lo _
/-- The next row, as a word. -/
theorem rowHi_at (r : Fin 128) (l : Fin 14) :
    (res_main_v79 V0 : IVec S128x14 32) (ix2 r l) = BitVec.ofNat 32 (hi (rowPos V0 r l) : ℕ) := by
  pointwise [res_main_v79]
  rw [rowLo_at]
  exact minsi_hi _
/-- The next column, as a word. -/
theorem colHi_at (r : Fin 128) (l : Fin 14) :
    (res_main_v83 V0 : IVec S128x14 32) (ix2 r l) = BitVec.ofNat 32 (hi (colPos V0 r l) : ℕ) := by
  pointwise [res_main_v83]
  rw [colLo_at]
  exact minsi_hi _
/-- The next row's weight. -/
theorem rowFrac_at (r : Fin 128) (l : Fin 14) :
    (res_main_v85 V0 : FVec Ideal S128x14 .f32) (ix2 r l) = ((wt (rowPos V0 r l) 1 : ℝ) : EReal) := by
  pointwise [res_main_v85]
  rw [rowClip_at, rowLo_at, sitofp_ofNat (by omega), clip_sub]
  rfl
/-- The next column's weight. -/
theorem colFrac_at (r : Fin 128) (l : Fin 14) :
    (res_main_v87 V0 : FVec Ideal S128x14 .f32) (ix2 r l) = ((wt (colPos V0 r l) 1 : ℝ) : EReal) := by
  pointwise [res_main_v87]
  rw [colClip_at, colLo_at, sitofp_ofNat (by omega), clip_sub]
  rfl
/-- The lower-numbered row's weight. -/
theorem rowRest_at (r : Fin 128) (l : Fin 14) :
    (res_main_v89 V0 : FVec Ideal S128x14 .f32) (ix2 r l) = ((wt (rowPos V0 r l) 0 : ℝ) : EReal) := by
  pointwise [res_main_v89]
  rw [rowFrac_at]
  exact one_sub_frac _
/-- The lower-numbered column's weight. -/
theorem colRest_at (r : Fin 128) (l : Fin 14) :
    (res_main_v91 V0 : FVec Ideal S128x14 .f32) (ix2 r l) = ((wt (colPos V0 r l) 0 : ℝ) : EReal) := by
  pointwise [res_main_v91]
  rw [colFrac_at]
  exact one_sub_frac _
/-- The image a box belongs to, as the gather's index word. -/
theorem word_at (r : Fin 128) (i j : Fin 1) :
    (res_main_v93 V0 : IVec S128x1x1 32) (ix3 r i j) = BitVec.ofNat 32 ((r : ℕ) / 32) := by
  have h := image_at V0 r
  pointwise [res_main_v93]
  exact (congrArg (Ideal.fptosi 32) h).trans (fptosi_ofNat (by omega))
/-- The features with the channel axis moved last. -/
theorem plane_at (b : Fin 4) (h w : Fin 32) (c : Fin 768) :
    (res_main_v92 V0 : FVec Ideal S4x32x32x768 .f32) (ix4 b h w c) = feat V0 (ix4 b c h w) := by
  pointwise [res_main_v92]

/-! ## The gather of one channel column -/

/-- Where the three index words name an image, a row and a column, the gather reads that element of every channel. -/
theorem gather_at {α : Type} (x : S4x32x32x768.Idx → α) (idx : IVec S128x14x14x3 32) (r : Fin 128) (l m : Fin 14) (c : Fin 768)
    (b : Fin 4) (h w : Fin 32) (hb : idx (ix4 r l m (0 : Fin 3)) = BitVec.ofNat 32 (b : ℕ))
    (hh : idx (ix4 r l m (1 : Fin 3)) = BitVec.ofNat 32 (h : ℕ)) (hw : idx (ix4 r l m (2 : Fin 3)) = BitVec.ofNat 32 (w : ℕ)) :
    Host.gather gather_S4x32x32x768_S128x14x14x3_S128x14x14x768_3_012_n_n_012_3_111768 x idx (ix4 r l m c)
      = x (ix4 b h w c) := by
  have key : ∀ (k : Fin 3) (n M : ℕ), n ≤ M → M < 2147483648 → idx (ix4 r l m k) = BitVec.ofNat 32 n →
      ∀ q, q = ix4 r l m k → min (idx q).toInt.toNat M = n := by
    intro k n M hn hM e q hq
    rw [hq, e, toInt_ofNat (by omega)]
    simpa using hn
  unfold Host.gather
  refine congrArg x ?_
  funext a
  refine Fin.ext ?_
  show GatherDims.start _ _ idx a + GatherDims.batchCoord _ _ a + GatherDims.offCoord _ _ a = _
  rw [GatherDims.batchCoord_eq_zero _ _ _ List.not_mem_nil]
  match a with
  | ⟨0, ha⟩ =>
    rw [GatherDims.offCoord_eq_zero _ _ ⟨0, ha⟩ (show (0 : Fin 4) ∉ GatherDims.sKept gather_S4x32x32x768_S128x14x14x3_S128x14x14x768_3_012_n_n_012_3_111768 by decide)]
    unfold GatherDims.start
    rw [dif_pos (show (⟨0, ha⟩ : Fin S4x32x32x768.rank) ∈ GatherDims.startIndexMap gather_S4x32x32x768_S128x14x14x3_S128x14x14x768_3_012_n_n_012_3_111768 from
      (by decide : (0 : Fin 4) ∈ GatherDims.startIndexMap gather_S4x32x32x768_S128x14x14x3_S128x14x14x768_3_012_n_n_012_3_111768))]
    refine key 0 b 3 (by omega) (by omega) hb _ ?_
    funext t; refine Fin.ext ?_
    match t with | ⟨0, _⟩ => rfl | ⟨1, _⟩ => rfl | ⟨2, _⟩ => rfl | ⟨3, _⟩ => rfl
  | ⟨1, ha⟩ =>
    rw [GatherDims.offCoord_eq_zero _ _ ⟨1, ha⟩ (show (1 : Fin 4) ∉ GatherDims.sKept gather_S4x32x32x768_S128x14x14x3_S128x14x14x768_3_012_n_n_012_3_111768 by decide)]
    unfold GatherDims.start
    rw [dif_pos (show (⟨1, ha⟩ : Fin S4x32x32x768.rank) ∈ GatherDims.startIndexMap gather_S4x32x32x768_S128x14x14x3_S128x14x14x768_3_012_n_n_012_3_111768 from
      (by decide : (1 : Fin 4) ∈ GatherDims.startIndexMap gather_S4x32x32x768_S128x14x14x3_S128x14x14x768_3_012_n_n_012_3_111768))]
    refine key 1 h 31 (by omega) (by omega) hh _ ?_
    funext t; refine Fin.ext ?_
    match t with | ⟨0, _⟩ => rfl | ⟨1, _⟩ => rfl | ⟨2, _⟩ => rfl | ⟨3, _⟩ => rfl
  | ⟨2, ha⟩ =>
    rw [GatherDims.offCoord_eq_zero _ _ ⟨2, ha⟩ (show (2 : Fin 4) ∉ GatherDims.sKept gather_S4x32x32x768_S128x14x14x3_S128x14x14x768_3_012_n_n_012_3_111768 by decide)]
    unfold GatherDims.start
    rw [dif_pos (show (⟨2, ha⟩ : Fin S4x32x32x768.rank) ∈ GatherDims.startIndexMap gather_S4x32x32x768_S128x14x14x3_S128x14x14x768_3_012_n_n_012_3_111768 from
      (by decide : (2 : Fin 4) ∈ GatherDims.startIndexMap gather_S4x32x32x768_S128x14x14x3_S128x14x14x768_3_012_n_n_012_3_111768))]
    refine key 2 w 31 (by omega) (by omega) hw _ ?_
    funext t; refine Fin.ext ?_
    match t with | ⟨0, _⟩ => rfl | ⟨1, _⟩ => rfl | ⟨2, _⟩ => rfl | ⟨3, _⟩ => rfl
  | ⟨3, ha⟩ =>
    unfold GatherDims.start GatherDims.offCoord
    rw [dif_neg (show (⟨3, ha⟩ : Fin S4x32x32x768.rank) ∉ GatherDims.startIndexMap gather_S4x32x32x768_S128x14x14x3_S128x14x14x768_3_012_n_n_012_3_111768 from
        (by decide : (3 : Fin 4) ∉ GatherDims.startIndexMap gather_S4x32x32x768_S128x14x14x3_S128x14x14x768_3_012_n_n_012_3_111768)),
      dif_pos (show (⟨3, ha⟩ : Fin S4x32x32x768.rank) ∈ GatherDims.sKept gather_S4x32x32x768_S128x14x14x3_S128x14x14x768_3_012_n_n_012_3_111768 from
        (by decide : (3 : Fin 4) ∈ GatherDims.sKept gather_S4x32x32x768_S128x14x14x3_S128x14x14x768_3_012_n_n_012_3_111768))]
    show 0 + 0 + (c : ℕ) = c
    omega

/-! ## The four corners of a sample -/

/-- The word of the image, as the gather takes it. -/
theorem wordWrap (r : Fin 128) (i j : Fin 1) :
    Scalar.select (IntOp.cmpi .slt ((res_main_v93 V0 : IVec S128x1x1 32) (ix3 r i j)) 0#32)
      (IntOp.addi ((res_main_v93 V0 : IVec S128x1x1 32) (ix3 r i j)) 4#32) ((res_main_v93 V0 : IVec S128x1x1 32) (ix3 r i j))
      = BitVec.ofNat 32 ((r : ℕ) / 32) := by
  rw [word_at]; exact wrap_eq _ (by omega)

/-- What the box's image holds of channel `c`. -/
abbrev column (r : Fin 128) (c : Fin 768) : Fin 32 → Fin 32 → EReal :=
  fun h w => feat V0 (ix4 (⟨(r : ℕ) / 32, by omega⟩ : Fin 4) c h w)

/-- The two corners on the row at or above the sample. -/
theorem upper_at (r : Fin 128) (l m : Fin 14) (c : Fin 768) :
    (res_main_v172 V0 : FVec Ideal S128x14x14x768 .f32) (ix4 r l m c)
      = (((wt (rowPos V0 r l) 0 : ℝ) : EReal) * ((wt (colPos V0 r m) 0 : ℝ) : EReal)
          * column V0 r c (nbr (rowPos V0 r l) 0) (nbr (colPos V0 r m) 0)
        + ((wt (rowPos V0 r l) 0 : ℝ) : EReal) * ((wt (colPos V0 r m) 1 : ℝ) : EReal)
          * column V0 r c (nbr (rowPos V0 r l) 0) (nbr (colPos V0 r m) 1) : EReal) := by
  pointwise [res_main_v172]
  rw [gather_at (b := ⟨(r : ℕ) / 32, by omega⟩) (h := lo (rowPos V0 r l)) (w := lo (colPos V0 r m)),
    gather_at (b := ⟨(r : ℕ) / 32, by omega⟩) (h := lo (rowPos V0 r l)) (w := hi (colPos V0 r m))]
  · rw [plane_at, plane_at, rowRest_at, colRest_at, colFrac_at]
    rfl
  · pointwise; exact wordWrap V0 r 0 0
  · pointwise [res_main_v145]; rw [rowLo_at]; exact wrap_eq _ (by omega)
  · pointwise [res_main_v146]; rw [colHi_at]; exact wrap_eq _ (by omega)
  · pointwise; exact wordWrap V0 r 0 0
  · pointwise [res_main_v118]; rw [rowLo_at]; exact wrap_eq _ (by omega)
  · pointwise [res_main_v119]; rw [colLo_at]; exact wrap_eq _ (by omega)

/-- The bilinear mean at a sample: the four corners, each with its two weights. -/
theorem corners_at (r : Fin 128) (l m : Fin 14) (c : Fin 768) :
    (res_main_v228 V0 : FVec Ideal S128x14x14x768 .f32) (ix4 r l m c)
      = ∑ e : Fin 2, ∑ f : Fin 2, ((wt (rowPos V0 r l) e : ℝ) : EReal) * ((wt (colPos V0 r m) f : ℝ) : EReal)
          * column V0 r c (nbr (rowPos V0 r l) e) (nbr (colPos V0 r m) f) := by
  rw [Fin.sum_univ_two, Fin.sum_univ_two, Fin.sum_univ_two, ← add_assoc, ← upper_at]
  pointwise [res_main_v228]
  rw [gather_at (b := ⟨(r : ℕ) / 32, by omega⟩) (h := hi (rowPos V0 r l)) (w := lo (colPos V0 r m)),
    gather_at (b := ⟨(r : ℕ) / 32, by omega⟩) (h := hi (rowPos V0 r l)) (w := hi (colPos V0 r m))]
  · rw [plane_at, plane_at, rowFrac_at, colRest_at, colFrac_at]
    rfl
  · pointwise; exact wordWrap V0 r 0 0
  · pointwise [res_main_v201]; rw [rowHi_at]; exact wrap_eq _ (by omega)
  · pointwise [res_main_v202]; rw [colHi_at]; exact wrap_eq _ (by omega)
  · pointwise; exact wordWrap V0 r 0 0
  · pointwise [res_main_v173]; rw [rowHi_at]; exact wrap_eq _ (by omega)
  · pointwise [res_main_v174]; rw [colLo_at]; exact wrap_eq _ (by omega)

/-! ## The mean over a bin's four samples -/

/-- Summing a bin's two rows and two columns of samples. -/
theorem bin_sum (x : S128x14x14x768.Idx → EReal) (r : Fin 128) (o p : Fin 7) (c : Fin 768) :
    Ideal.hostReduceAdd reducesTo_S128x7x2x7x2x768_S128x7x7x768_d2_4
        (shapeCast S128x7x2x7x2x768 x shapeCasts_S128x14x14x768_S128x7x2x7x2x768) 0 (ix4 r o p c)
      = ∑ q : Fin 2 × Fin 2, x (ix4 r (⟨2 * (o : ℕ) + (q.1 : ℕ), by omega⟩ : Fin 14) (⟨2 * (p : ℕ) + (q.2 : ℕ), by omega⟩ : Fin 14) c) := by
  unfold Ideal.hostReduceAdd
  rw [zero_add]
  refine (Finset.sum_filter_eq_sum_of_fiber _ (fun q : Fin 2 × Fin 2 => (ix6 r o q.1 p q.2 c : S128x7x2x7x2x768.Idx)) ?_ ?_ _).trans ?_
  · intro q q' h
    exact Prod.ext (congrFun h 2) (congrFun h 4)
  · intro i
    constructor
    · intro h
      refine ⟨(i 2, i 4), ?_⟩
      funext b
      refine Fin.ext ?_
      match b with
      | ⟨0, _⟩ => exact (congrArg Fin.val (congrFun h 0)).symm
      | ⟨1, _⟩ => exact (congrArg Fin.val (congrFun h 1)).symm
      | ⟨2, _⟩ => rfl
      | ⟨3, _⟩ => exact (congrArg Fin.val (congrFun h 2)).symm
      | ⟨4, _⟩ => rfl
      | ⟨5, _⟩ => exact (congrArg Fin.val (congrFun h 3)).symm
    · rintro ⟨q, rfl⟩
      funext b
      refine Fin.ext ?_
      match b with | ⟨0, _⟩ => rfl | ⟨1, _⟩ => rfl | ⟨2, _⟩ => rfl | ⟨3, _⟩ => rfl
  · refine Finset.sum_congr rfl fun q _ => ?_
    pointwise
    refine congrArg x (congrArg₂ (fun a b => ix4 r a b c) (Fin.ext ?_) (Fin.ext ?_)) <;> exact congrArg (· + _) (Nat.mul_comm _ _)

/-- The reference's result array, as its last operations compose it. -/
abbrev result : FVec Ideal S128x768x7x7 .f32 :=
  transpose S128x768x7x7 [0, 3, 1, 2] (Host.divf (Host.reduceAdd (shapeCast _ (mulf (res_main_v228 V0) (broadcastInDim S128x14x14x768 ![0, 1, 2, 3] bcast_S128x14x14x1_S128x14x14x768_0_1_2_3 (uitofp .f32 (broadcastInDim S128x14x14x1 ![0, 1, 2] bcast_S128x14x14_S128x14x14x1_0_1_2 (andi (broadcastInDim S128x14x14 ![0, 1, 2] bcast_S128x14x1_S128x14x14_0_1_2 (broadcastInDim S128x14x1 ![0, 1] bcast_S128x14_S128x14x1_0_1 (andi (cmpf .oge (res_main_v51 V0) (broadcastInDim S128x14 ![] bcast_S_S128x14 (constant S_ .f32 0xBF800000#32))) (cmpf .ole (res_main_v51 V0) (broadcastInDim S128x14 ![] bcast_S_S128x14 (constant S_ .f32 0x42000000#32)))))) (broadcastInDim S128x14x14 ![0, 1, 2] bcast_S128x1x14_S128x14x14_0_1_2 (broadcastInDim S128x1x14 ![0, 2] bcast_S128x14_S128x1x14_0_2 (andi (cmpf .oge (res_main_v59 V0) (broadcastInDim S128x14 ![] bcast_S_S128x14 (constant S_ .f32 0xBF800000#32))) (cmpf .ole (res_main_v59 V0) (broadcastInDim S128x14 ![] bcast_S_S128x14 (constant S_ .f32 0x42000000#32))))))))))) shapeCasts_S128x14x14x768_S128x7x2x7x2x768) (constant S_ .f32 0x00000000#32) reducesTo_S128x7x2x7x2x768_S128x7x7x768_d2_4 h_S_) (broadcastInDim S128x7x7x768 ![] bcast_S_S128x7x7x768 (constant S_ .f32 0x40800000#32))) transposes_S128x7x7x768_S128x768x7x7_0_3_1_2

/-- The reference's result at one element: the pooled value of the box's bin. -/
theorem result_at (r : Fin 128) (o p : Fin 7) (c : Fin 768) :
    (result V0 : FVec Ideal S128x768x7x7 .f32) (ix4 r c o p)
      = pooled (column V0 r c) (fun k => spot (side V0 r 1) (side V0 r 3) o k) (fun k => spot (side V0 r 0) (side V0 r 2) p k) := by
  unfold result
  pointwise
  rw [bin_sum]
  pointwise
  rw [f32_four, ← pooled_eq]
  refine congrArg (fun z => Ideal.div z ((4 : ℝ) : EReal)) (Finset.sum_congr rfl fun q _ => ?_)
  rw [corners_at, row_at, col_at, f32_neg_one, f32_extent, both_valid]
  rw [← sample_eq, ← sample_eq]

end Arrays
end Cert.ReferenceIdeal.Block

end

end
-- ==== Proof.Compare.lean ====
/-
The equation: the reference's result array is the kernel's, reshaped.
-/
module

public import proofs.«01_k».proof.Proof.Value
public import proofs.«01_k».proof.Proof.Ref
public import proofs.«01_k».proof.Defs
public import Idealize.ShloMosaic.Lib.Claim

@[expose] public section

set_option maxRecDepth 16384

noncomputable section

namespace Cert.Compare

open Idealize.ShloMosaic Idealize.ShloMosaic.TcCoe Idealize.SL.Sem Cert.RoiAlign
open Cert.ReferenceIdeal (S128x768x7x7 S4x768x32x32 S4x32x4)

/-- From the same features and boxes the reference's result is the kernel's rows of bins, reshaped. -/
theorem result_eq (V0 : Valuation Cert.ReferenceIdeal.τ Cert.ReferenceIdeal.sig (Elt Ideal)) :
    Cert.ReferenceIdeal.Block.result V0
      = shapeCast S128x768x7x7 (Cert.KernelIdeal.Block.rows (Cert.ReferenceIdeal.Block.feat V0) (Cert.ReferenceIdeal.Block.boxes V0))
          Cert.KernelIdeal.Gen.shapeCasts_S128x768x49_S128x768x7x7 := by
  funext i
  idx_vars i
  refine (Cert.ReferenceIdeal.Block.result_at V0 i0 i2 i3 i1).trans ?_
  pointwise
  show _ = Cert.KernelIdeal.Block.bin _ _ i0 i1 (((i2 : ℕ) * 7 + (i3 : ℕ)) / 7) (((i2 : ℕ) * 7 + (i3 : ℕ)) % 7)
  rw [show ((i2 : ℕ) * 7 + (i3 : ℕ)) / 7 = i2 by omega, show ((i2 : ℕ) * 7 + (i3 : ℕ)) % 7 = i3 by omega]
  rfl

/-- Both programs run, and the two result arrays are equal. -/
theorem algebraic : Cert.algebraic_KernelIdeal_ReferenceIdeal := by
  pair_intro
  · exact Cert.KernelIdeal.Block.run m g
  · run_from Cert.ReferenceIdeal.Value.run m' g'
    refine (result_eq (StableHlo.launchContents m' c)).trans ?_
    exact congrArg₂ (fun x y => shapeCast S128x768x7x7 (Cert.KernelIdeal.Block.rows x y)
      Cert.KernelIdeal.Gen.shapeCasts_S128x768x49_S128x768x7x7) (hagree c).1 (hagree c).2

/-- The reference is host operations alone: it ends with its arguments as they were, and it has no semaphore. -/
theorem quiescent_reference : Cert.quiescent_ReferenceIdeal := fun m g _ => by
  refine (θ_run _ _ _).mono (fun r h => ?_) (Cert.ReferenceIdeal.Value.run m g)
  exact And.intro (fun c => (h c).2) (sem_eq_zero_of_no_sems (by decide) r.2)

/-- The two named constants are the rationals that the certificate's table gives them. -/
theorem preserves : Cert.preserves_Kernel_KernelIdeal := by
  constructor <;> exact IdealRules.named_const.statement _ _ _ _ _ rfl

end Cert.Compare

end

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Compare
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  Cert.Compare.quiescent_reference, Cert.Compare.preserves, Cert.Compare.algebraic⟩

end Cert.Proof

end
